-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v302) = v0 c
          ∧ r.2.mem ((c.tc : Thread Cert.ReferenceIdeal.nD Cert.ReferenceIdeal.τ).loc Cert.ReferenceIdeal.main_v323) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x8192x768 : Shape := ⟨3, ![2, 8192, 768]⟩
abbrev S2x8192 : Shape := ⟨2, ![2, 8192]⟩
abbrev S2x384 : Shape := ⟨2, ![2, 384]⟩
abbrev S384 : Shape := ⟨1, ![384]⟩
abbrev S384x1 : Shape := ⟨2, ![384, 1]⟩
abbrev S1 : Shape := ⟨1, ![1]⟩
abbrev S768x768 : Shape := ⟨2, ![768, 768]⟩
abbrev S768 : Shape := ⟨1, ![768]⟩
abbrev S_ : Shape := ⟨0, ![]⟩

class Facts : Prop where
  bcast_S_S2x8192x768 : S_.BroadcastsInDim S2x8192x768 (![] : Fin 0 → Fin S2x8192x768.rank)
  reducesTo_S2x8192x768_S_d0_1_2 : S2x8192x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S2x8192x768 .f32) (main_arg1 : IVec S2x8192 32) (main_arg2 : FVec F S2x384 .f32) (main_arg3 : FVec F S384 .f32) (main_arg4 : FVec F S384x1 .f32) (main_arg5 : FVec F S1 .f32) (main_arg6 : FVec F S768x768 .f32) (main_arg7 : FVec F S768 .f32) (main_arg8 : FVec F S768 .f32) (main_arg9 : FVec F S768 .f32) : IVec S_ 1 :=
  let main_v0 : FVec F S2x8192x768 .f32 := Host.absf main_arg0
  let main_cst : FVec F S_ .f32 := constant S_ .f32 0x7F800000#32
  let main_v1 : FVec F S2x8192x768 .f32 := broadcastInDim S2x8192x768 ![] bcast_S_S2x8192x768 main_cst
  let main_v2 : IVec S2x8192x768 1 := cmpf .olt main_v0 main_v1
  let main_c : IVec S_ 1 := constantI S_ 1 1#1
  let main_v3 : IVec S_ 1 := (fun x v => Host.reduce IntOp.andi x v reducesTo_S2x8192x768_S_d0_1_2 h_S_) main_v2 main_c
  let main_v4 : FVec F S768x768 .f32 := Host.absf main_arg6
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg7
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S2x8192x768 : Shape := ⟨3, ![2, 8192, 768]⟩
abbrev S2x8192 : Shape := ⟨2, ![2, 8192]⟩
abbrev S2x384 : Shape := ⟨2, ![2, 384]⟩
abbrev S384 : Shape := ⟨1, ![384]⟩
abbrev S384x1 : Shape := ⟨2, ![384, 1]⟩
abbrev S1 : Shape := ⟨1, ![1]⟩
abbrev S768x768 : Shape := ⟨2, ![768, 768]⟩
abbrev S768 : Shape := ⟨1, ![768]⟩
abbrev S1x384 : Shape := ⟨2, ![1, 384]⟩
abbrev S1x1 : Shape := ⟨2, ![1, 1]⟩
abbrev S1x768 : Shape := ⟨2, ![1, 768]⟩
abbrev S2x8x128 : Shape := ⟨3, ![2, 8, 128]⟩
abbrev S1x1024x768 : Shape := ⟨3, ![1, 1024, 768]⟩
abbrev S1x8x128 : Shape := ⟨3, ![1, 8, 128]⟩
abbrev S2x1056x768 : Shape := ⟨3, ![2, 1056, 768]⟩
abbrev S2 : Shape := ⟨1, ![2]⟩
abbrev S_ : Shape := ⟨0, ![]⟩
abbrev S1x1056x768 : Shape := ⟨3, ![1, 1056, 768]⟩
abbrev S1056x768 : Shape := ⟨2, ![1056, 768]⟩
abbrev S1056x1 : Shape := ⟨2, ![1056, 1]⟩
abbrev S1056 : Shape := ⟨1, ![1056]⟩
abbrev S1055x768 : Shape := ⟨2, ![1055, 768]⟩
abbrev S1055x1 : Shape := ⟨2, ![1055, 1]⟩
abbrev S1056x384 : Shape := ⟨2, ![1056, 384]⟩
abbrev S2x768 : Shape := ⟨2, ![2, 768]⟩
abbrev S1054x768 : Shape := ⟨2, ![1054, 768]⟩
abbrev S2x1 : Shape := ⟨2, ![2, 1]⟩
abbrev S1054x1 : Shape := ⟨2, ![1054, 1]⟩
abbrev S1x1056x1 : Shape := ⟨3, ![1, 1056, 1]⟩
abbrev S1x1x1 : Shape := ⟨3, ![1, 1, 1]⟩
abbrev S1024x768 : Shape := ⟨2, ![1024, 768]⟩
abbrev S2x1x1 : Shape := ⟨3, ![2, 1, 1]⟩

abbrev nBuf : Space → Nat
  | .hbm => 20
  | .vmem => 13
  | .smem => 0
  | _ => 0

abbrev bufTy : (tb : Table) → Fin (tcTables nBuf tb) → BufTy
  | .hbm, ⟨0, _⟩ => ⟨S2x8192x768, .f32⟩
  | .hbm, ⟨1, _⟩ => ⟨S2x8192, .i32⟩
  | .hbm, ⟨2, _⟩ => ⟨S2x384, .f32⟩
  | .hbm, ⟨3, _⟩ => ⟨S384, .f32⟩
  | .hbm, ⟨4, _⟩ => ⟨S384x1, .f32⟩
  | .hbm, ⟨5, _⟩ => ⟨S1, .f32⟩
  | .hbm, ⟨6, _⟩ => ⟨S768x768, .f32⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S1x384, .f32⟩
  | .hbm, ⟨11, _⟩ => ⟨S1x384, .f32⟩
  | .hbm, ⟨12, _⟩ => ⟨S1x1, .f32⟩
  | .hbm, ⟨13, _⟩ => ⟨S1x768, .f32⟩
  | .hbm, ⟨14, _⟩ => ⟨S1x768, .f32⟩
  | .hbm, ⟨15, _⟩ => ⟨S1x768, .f32⟩
  | .hbm, ⟨16, _⟩ => ⟨S2x8192x768, .f32⟩
  | .hbm, ⟨17, _⟩ => ⟨S2x8x128, .f32⟩
  | .hbm, ⟨18, _⟩ => ⟨S2x1x1, .f32⟩
  | .hbm, ⟨19, _⟩ => ⟨S2, .f32⟩
  | .local _ .vmem, ⟨0, _⟩ => ⟨S2x384, .f32⟩
  | .local _ .vmem, ⟨1, _⟩ => ⟨S1x384, .f32⟩
  | .local _ .vmem, ⟨2, _⟩ => ⟨S1x384, .f32⟩
  | .local _ .vmem, ⟨3, _⟩ => ⟨S1x1, .f32⟩
  | .local _ .vmem, ⟨4, _⟩ => ⟨S768x768, .f32⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S1x1024x768, .f32⟩
  | .local _ .vmem, ⟨9, _⟩ => ⟨S1x1024x768, .f32⟩
  | .local _ .vmem, ⟨10, _⟩ => ⟨S1x8x128, .f32⟩
  | .local _ .vmem, ⟨11, _⟩ => ⟨S1x8x128, .f32⟩
  | .local _ .vmem, ⟨12, _⟩ => ⟨S2x1056x768, .f32⟩
  | _, _ => ⟨S2x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let v4 : BitVec 32 := Scalar.extui v3
  let c0_i32_0 : BitVec 32 := 0#32
  let v5 : BitVec 1 := Scalar.cmpi .ne v4 c0_i32_0
  v5

def k0_mult1 : BitVec 32 :=
  let c7136_i32_120 : BitVec 32 := 7136#32
  let c0_i32_119 : BitVec 32 := 0#32
  let c_m16_i32 : BitVec 32 := 4294967280#32
  let v370 : BitVec 32 := Scalar.maxsi c0_i32_119 c_m16_i32
  let v371 : BitVec 32 := Scalar.minsi c7136_i32_120 v370
  v371
def k0_off1 : Fin 3 → Nat :=
  let c0_i32_121 : BitVec 32 := 0#32
  let c7136_i32_120 : BitVec 32 := 7136#32
  let c0_i32_119 : BitVec 32 := 0#32
  let c_m16_i32 : BitVec 32 := 4294967280#32
  let v370 : BitVec 32 := Scalar.maxsi c0_i32_119 c_m16_i32
  let v371 : BitVec 32 := Scalar.minsi c7136_i32_120 v370
  let v372 : BitVec 32 := v371
  let c0_i32_126 : BitVec 32 := 0#32
  ![0, v372.toNat, 0]
def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32 : BitVec 32 := 1#32
  let v6 : BitVec 32 := Scalar.addi v1 c1_i32
  let c16_i32 : BitVec 32 := 16#32
  let v7 : BitVec 1 := Scalar.cmpi .slt v6 c16_i32
  let v8 : BitVec 32 := Scalar.extui v7
  let c0_i32_1 : BitVec 32 := 0#32
  let v9 : BitVec 1 := Scalar.cmpi .ne v8 c0_i32_1
  v9

def k0_mult2 (i : grid0.Coords) : BitVec 32 :=
  let c7136_i32_132 : BitVec 32 := 7136#32
  let c0_i32_131 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_119 : BitVec 32 := 1#32
  let v370 : BitVec 32 := Scalar.addi v1 c1_i32_119
  let c0_i32_122 : BitVec 32 := 0#32
  let v373 : BitVec 1 := Scalar.cmpi .sgt v370 c0_i32_122
  let v374 : BitVec 32 := Scalar.extui v373
  let c0_i32_123 : BitVec 32 := 0#32
  let v375 : BitVec 1 := Scalar.cmpi .slt v370 c0_i32_123
  let v376 : BitVec 32 := Scalar.extui v375
  let v377 : BitVec 32 := Scalar.subi v374 v376
  let c8_i32_121 : BitVec 32 := 8#32
  let c0_i32_124 : BitVec 32 := 0#32
  let v378 : BitVec 1 := Scalar.cmpi .sgt c8_i32_121 c0_i32_124
  let v379 : BitVec 32 := Scalar.extui v378
  let c0_i32_125 : BitVec 32 := 0#32
  let v380 : BitVec 1 := Scalar.cmpi .slt c8_i32_121 c0_i32_125
  let v381 : BitVec 32 := Scalar.extui v380
  let v382 : BitVec 32 := Scalar.subi v379 v381
  let v383 : BitVec 1 := Scalar.cmpi .ne v377 v382
  let v384 : BitVec 32 := Scalar.remsi v370 c8_i32_121
  let c0_i32_126 : BitVec 32 := 0#32
  let v385 : BitVec 1 := Scalar.cmpi .ne v384 c0_i32_126
  let v386 : BitVec 1 := Scalar.andi v383 v385
  let v372 : BitVec 32 := Scalar.divsi v370 c8_i32_121
  let c1_i32_127 : BitVec 32 := 1#32
  let v387 : BitVec 32 := Scalar.subi v372 c1_i32_127
  let v388 : BitVec 32 := Scalar.select v386 v387 v372
  let c8_i32_128 : BitVec 32 := 8#32
  let v389 : BitVec 32 := Scalar.muli v388 c8_i32_128
  let v390 : BitVec 32 := Scalar.subi v370 v389
  let c1024_i32_129 : BitVec 32 := 1024#32
  let v391 : BitVec 32 := Scalar.muli v390 c1024_i32_129
  let c16_i32_130 : BitVec 32 := 16#32
  let v392 : BitVec 32 := Scalar.subi v391 c16_i32_130
  let v393 : BitVec 32 := Scalar.maxsi c0_i32_131 v392
  let v394 : BitVec 32 := Scalar.minsi c7136_i32_132 v393
  v394
def k0_off2 (i : grid0.Coords) : Fin 1 → Nat :=
  let c1_i32_120 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v371 : BitVec 32 := Scalar.subi c1_i32_120 v2
  ![v371.toNat]
def k0_off3 (i : grid0.Coords) : Fin 3 → Nat :=
  let c1_i32_120 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v371 : BitVec 32 := Scalar.subi c1_i32_120 v2
  let c0_i32_133 : BitVec 32 := 0#32
  let c0_i32_134 : BitVec 32 := 0#32
  ![v371.toNat, 0, 0]
def k0_off4 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_119 : BitVec 32 := 1#32
  let v370 : BitVec 32 := Scalar.addi v1 c1_i32_119
  let c0_i32_122 : BitVec 32 := 0#32
  let v373 : BitVec 1 := Scalar.cmpi .sgt v370 c0_i32_122
  let v374 : BitVec 32 := Scalar.extui v373
  let c0_i32_123 : BitVec 32 := 0#32
  let v375 : BitVec 1 := Scalar.cmpi .slt v370 c0_i32_123
  let v376 : BitVec 32 := Scalar.extui v375
  let v377 : BitVec 32 := Scalar.subi v374 v376
  let c8_i32_121 : BitVec 32 := 8#32
  let c0_i32_124 : BitVec 32 := 0#32
  let v378 : BitVec 1 := Scalar.cmpi .sgt c8_i32_121 c0_i32_124
  let v379 : BitVec 32 := Scalar.extui v378
  let c0_i32_125 : BitVec 32 := 0#32
  let v380 : BitVec 1 := Scalar.cmpi .slt c8_i32_121 c0_i32_125
  let v381 : BitVec 32 := Scalar.extui v380
  let v382 : BitVec 32 := Scalar.subi v379 v381
  let v383 : BitVec 1 := Scalar.cmpi .ne v377 v382
  let v384 : BitVec 32 := Scalar.remsi v370 c8_i32_121
  let c0_i32_126 : BitVec 32 := 0#32
  let v385 : BitVec 1 := Scalar.cmpi .ne v384 c0_i32_126
  let v386 : BitVec 1 := Scalar.andi v383 v385
  let v372 : BitVec 32 := Scalar.divsi v370 c8_i32_121
  let c1_i32_127 : BitVec 32 := 1#32
  let v387 : BitVec 32 := Scalar.subi v372 c1_i32_127
  let v388 : BitVec 32 := Scalar.select v386 v387 v372
  let c7136_i32_132 : BitVec 32 := 7136#32
  let c0_i32_131 : BitVec 32 := 0#32
  let c8_i32_128 : BitVec 32 := 8#32
  let v389 : BitVec 32 := Scalar.muli v388 c8_i32_128
  let v390 : BitVec 32 := Scalar.subi v370 v389
  let c1024_i32_129 : BitVec 32 := 1024#32
  let v391 : BitVec 32 := Scalar.muli v390 c1024_i32_129
  let c16_i32_130 : BitVec 32 := 16#32
  let v392 : BitVec 32 := Scalar.subi v391 c16_i32_130
  let v393 : BitVec 32 := Scalar.maxsi c0_i32_131 v392
  let v394 : BitVec 32 := Scalar.minsi c7136_i32_132 v393
  let v395 : BitVec 32 := v394
  let c0_i32_135 : BitVec 32 := 0#32
  ![v388.toNat, v395.toNat, 0]
def k0_mult3 (i : grid0.Coords) : BitVec 32 :=
  let c7136_i32 : BitVec 32 := 7136#32
  let c0_i32_3 : BitVec 32 := 0#32
  let arg1 : BitVec 32 := BitVec.ofNat 32 (i 1).val
  let c1024_i32 : BitVec 32 := 1024#32
  let v10 : BitVec 32 := Scalar.muli arg1 c1024_i32
  let c16_i32_2 : BitVec 32 := 16#32
  let v11 : BitVec 32 := Scalar.subi v10 c16_i32_2
  let v12 : BitVec 32 := Scalar.maxsi c0_i32_3 v11
  let v13 : BitVec 32 := Scalar.minsi c7136_i32 v12
  v13
def k0_off5 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off6 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_5 : BitVec 32 := 0#32
  let c0_i32_6 : BitVec 32 := 0#32
  ![v2.toNat, 0, 0]
def k0_off7 (i : grid0.Coords) : Fin 3 → Nat :=
  let arg0 : BitVec 32 := BitVec.ofNat 32 (i 0).val
  let c7136_i32 : BitVec 32 := 7136#32
  let c0_i32_3 : BitVec 32 := 0#32
  let arg1 : BitVec 32 := BitVec.ofNat 32 (i 1).val
  let c1024_i32 : BitVec 32 := 1024#32
  let v10 : BitVec 32 := Scalar.muli arg1 c1024_i32
  let c16_i32_2 : BitVec 32 := 16#32
  let v11 : BitVec 32 := Scalar.subi v10 c16_i32_2
  let v12 : BitVec 32 := Scalar.maxsi c0_i32_3 v11
  let v13 : BitVec 32 := Scalar.minsi c7136_i32 v12
  let v14 : BitVec 32 := v13
  let c0_i32_7 : BitVec 32 := 0#32
  ![arg0.toNat, v14.toNat, 0]
def k0_off8 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v23 : Index := Scalar.indexCast v2
  let c0 : Index := 0#32
  let c0_8 : Index := 0#32
  ![v23.toNat, 0, 0]
def k0_cond3 (i : grid0.Coords) : BitVec 1 :=
  let arg1 : BitVec 32 := BitVec.ofNat 32 (i 1).val
  let c1024_i32_4 : BitVec 32 := 1024#32
  let v15 : BitVec 32 := Scalar.muli arg1 c1024_i32_4
  let c7136_i32 : BitVec 32 := 7136#32
  let c0_i32_3 : BitVec 32 := 0#32
  let c1024_i32 : BitVec 32 := 1024#32
  let v10 : BitVec 32 := Scalar.muli arg1 c1024_i32
  let c16_i32_2 : BitVec 32 := 16#32
  let v11 : BitVec 32 := Scalar.subi v10 c16_i32_2
  let v12 : BitVec 32 := Scalar.maxsi c0_i32_3 v11
  let v13 : BitVec 32 := Scalar.minsi c7136_i32 v12
  let v14 : BitVec 32 := v13
  let v16 : BitVec 32 := Scalar.subi v15 v14
  let c0_i32_114 : BitVec 32 := 0#32
  let v361 : BitVec 1 := Scalar.cmpi .eq v16 c0_i32_114
  let v362 : BitVec 32 := Scalar.extui v361
  let c0_i32_115 : BitVec 32 := 0#32
  let v363 : BitVec 1 := Scalar.cmpi .ne v362 c0_i32_115
  v363

def k0_cond4 (i : grid0.Coords) : BitVec 1 :=
  let arg1 : BitVec 32 := BitVec.ofNat 32 (i 1).val
  let c1024_i32_4 : BitVec 32 := 1024#32
  let v15 : BitVec 32 := Scalar.muli arg1 c1024_i32_4
  let c7136_i32 : BitVec 32 := 7136#32
  let c0_i32_3 : BitVec 32 := 0#32
  let c1024_i32 : BitVec 32 := 1024#32
  let v10 : BitVec 32 := Scalar.muli arg1 c1024_i32
  let c16_i32_2 : BitVec 32 := 16#32
  let v11 : BitVec 32 := Scalar.subi v10 c16_i32_2
  let v12 : BitVec 32 := Scalar.maxsi c0_i32_3 v11
  let v13 : BitVec 32 := Scalar.minsi c7136_i32 v12
  let v14 : BitVec 32 := v13
  let v16 : BitVec 32 := Scalar.subi v15 v14
  let c16_i32_116 : BitVec 32 := 16#32
  let v364 : BitVec 1 := Scalar.cmpi .eq v16 c16_i32_116
  let v365 : BitVec 32 := Scalar.extui v364
  let c0_i32_117 : BitVec 32 := 0#32
  let v366 : BitVec 1 := Scalar.cmpi .ne v365 c0_i32_117
  v366

def k0_cond5 (i : grid0.Coords) : BitVec 1 :=
  let arg1 : BitVec 32 := BitVec.ofNat 32 (i 1).val
  let c1024_i32_4 : BitVec 32 := 1024#32
  let v15 : BitVec 32 := Scalar.muli arg1 c1024_i32_4
  let c7136_i32 : BitVec 32 := 7136#32
  let c0_i32_3 : BitVec 32 := 0#32
  let c1024_i32 : BitVec 32 := 1024#32
  let v10 : BitVec 32 := Scalar.muli arg1 c1024_i32
  let c16_i32_2 : BitVec 32 := 16#32
  let v11 : BitVec 32 := Scalar.subi v10 c16_i32_2
  let v12 : BitVec 32 := Scalar.maxsi c0_i32_3 v11
  let v13 : BitVec 32 := Scalar.minsi c7136_i32 v12
  let v14 : BitVec 32 := v13
  let v16 : BitVec 32 := Scalar.subi v15 v14
  let c32_i32 : BitVec 32 := 32#32
  let v367 : BitVec 1 := Scalar.cmpi .eq v16 c32_i32
  let v368 : BitVec 32 := Scalar.extui v367
  let c0_i32_118 : BitVec 32 := 0#32
  let v369 : BitVec 1 := Scalar.cmpi .ne v368 c0_i32_118
  v369

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S2x8192x768 : Shape := ⟨3, ![2, 8192, 768]⟩
abbrev S2x8192 : Shape := ⟨2, ![2, 8192]⟩
abbrev S2x384 : Shape := ⟨2, ![2, 384]⟩
abbrev S384 : Shape := ⟨1, ![384]⟩
abbrev S384x1 : Shape := ⟨2, ![384, 1]⟩
abbrev S1 : Shape := ⟨1, ![1]⟩
abbrev S768x768 : Shape := ⟨2, ![768, 768]⟩
abbrev S768 : Shape := ⟨1, ![768]⟩
abbrev S8191 : Shape := ⟨1, ![8191]⟩
abbrev S_ : Shape := ⟨0, ![]⟩
abbrev S8190 : Shape := ⟨1, ![8190]⟩
abbrev S16381 : Shape := ⟨1, ![16381]⟩
abbrev S1x1x768 : Shape := ⟨3, ![1, 1, 768]⟩
abbrev S16381x1 : Shape := ⟨2, ![16381, 1]⟩
abbrev S2x16381x768 : Shape := ⟨3, ![2, 16381, 768]⟩
abbrev S2x16381 : Shape := ⟨2, ![2, 16381]⟩
abbrev S2x16381x1 : Shape := ⟨3, ![2, 16381, 1]⟩
abbrev S2x16381x2 : Shape := ⟨3, ![2, 16381, 2]⟩
abbrev S2x16381x384 : Shape := ⟨3, ![2, 16381, 384]⟩
abbrev S1x1x384 : Shape := ⟨3, ![1, 1, 384]⟩
abbrev S1x1x1 : Shape := ⟨3, ![1, 1, 1]⟩
abbrev S2x8192x1 : Shape := ⟨3, ![2, 8192, 1]⟩
abbrev S2 : Shape := ⟨1, ![2]⟩

abbrev nBuf : Space → Nat
  | .hbm => 465
  | .vmem => 0
  | .smem => 0
  | _ => 0

abbrev hbmTy0_0 (i : Nat) : BufTy := match i % 128 with
  | 0 => ⟨S2x8192x768, .f32⟩
  | 1 => ⟨S2x8192, .i32⟩
  | 2 => ⟨S2x384, .f32⟩
  | 3 => ⟨S384, .f32⟩
  | 4 => ⟨S384x1, .f32⟩
  | 5 => ⟨S1, .f32⟩
  | 6 => ⟨S768x768, .f32⟩
  | 7 => ⟨S768, .f32⟩
  | 8 => ⟨S768, .f32⟩
  | 9 => ⟨S768, .f32⟩
  | 10 => ⟨S8191, .i32⟩
  | 11 => ⟨S_, .i32⟩
  | 12 => ⟨S8191, .i32⟩
  | 13 => ⟨S8191, .i32⟩
  | 14 => ⟨S8190, .i32⟩
  | 15 => ⟨S_, .i32⟩
  | 16 => ⟨S8190, .i32⟩
  | 17 => ⟨S8190, .i32⟩
  | 18 => ⟨S16381, .i32⟩
  | 19 => ⟨S16381, .i32⟩
  | 20 => ⟨S2x8192x768, .f32⟩
  | 21 => ⟨S1x1x768, .f32⟩
  | 22 => ⟨S2x8192x768, .f32⟩
  | 23 => ⟨S2x8192x768, .f32⟩
  | 24 => ⟨S_, .i32⟩
  | 25 => ⟨S16381, .i32⟩
  | 26 => ⟨S16381, .i1⟩
  | 27 => ⟨S_, .i32⟩
  | 28 => ⟨S16381, .i32⟩
  | 29 => ⟨S16381, .i32⟩
  | 30 => ⟨S16381, .i32⟩
  | 31 => ⟨S16381x1, .i32⟩
  | 32 => ⟨S2x16381x768, .f32⟩
  | 33 => ⟨S_, .i32⟩
  | 34 => ⟨S16381, .i32⟩
  | 35 => ⟨S16381, .i1⟩
  | 36 => ⟨S_, .i32⟩
  | 37 => ⟨S16381, .i32⟩
  | 38 => ⟨S16381, .i32⟩
  | 39 => ⟨S16381, .i32⟩
  | 40 => ⟨S16381x1, .i32⟩
  | 41 => ⟨S2x16381x768, .f32⟩
  | 42 => ⟨S2x16381x768, .f32⟩
  | 43 => ⟨S2x16381x768, .f32⟩
  | 44 => ⟨S_, .f32⟩
  | 45 => ⟨S2x16381, .f32⟩
  | 46 => ⟨S2x16381, .f32⟩
  | 47 => ⟨S2x16381x768, .f32⟩
  | 48 => ⟨S_, .f32⟩
  | 49 => ⟨S2x16381, .f32⟩
  | 50 => ⟨S2x16381, .f32⟩
  | 51 => ⟨S2x16381x768, .f32⟩
  | 52 => ⟨S_, .f32⟩
  | 53 => ⟨S2x16381, .f32⟩
  | 54 => ⟨S2x16381, .f32⟩
  | 55 => ⟨S2x16381x768, .f32⟩
  | 56 => ⟨S_, .f32⟩
  | 57 => ⟨S2x16381, .f32⟩
  | 58 => ⟨S_, .f32⟩
  | 59 => ⟨S2x16381, .f32⟩
  | 60 => ⟨S2x16381, .f32⟩
  | 61 => ⟨S_, .f32⟩
  | 62 => ⟨S2x16381, .f32⟩
  | 63 => ⟨S2x16381, .f32⟩
  | 64 => ⟨S2x16381, .f32⟩
  | 65 => ⟨S2x16381, .f32⟩
  | 66 => ⟨S2x16381x1, .f32⟩
  | 67 => ⟨S2x16381x1, .f32⟩
  | 68 => ⟨S2x16381x2, .f32⟩
  | 69 => ⟨S2x16381x384, .f32⟩
  | 70 => ⟨S1x1x384, .f32⟩
  | 71 => ⟨S2x16381x384, .f32⟩
  | 72 => ⟨S2x16381x384, .f32⟩
  | 73 => ⟨S_, .f32⟩
  | 74 => ⟨S2x16381x384, .f32⟩
  | 75 => ⟨S2x16381x384, .f32⟩
  | 76 => ⟨S2x16381x384, .f32⟩
  | 77 => ⟨S_, .f32⟩
  | 78 => ⟨S2x16381x384, .f32⟩
  | 79 => ⟨S2x16381x384, .f32⟩
  | 80 => ⟨S2x16381x384, .f32⟩
  | 81 => ⟨S2x16381x384, .f32⟩
  | 82 => ⟨S2x16381x1, .f32⟩
  | 83 => ⟨S1x1x1, .f32⟩
  | 84 => ⟨S2x16381x1, .f32⟩
  | 85 => ⟨S2x16381x1, .f32⟩
  | 86 => ⟨S_, .f32⟩
  | 87 => ⟨S2x16381x1, .f32⟩
  | 88 => ⟨S2x16381x1, .f32⟩
  | 89 => ⟨S2x16381x1, .f32⟩
  | 90 => ⟨S2x16381x1, .f32⟩
  | 91 => ⟨S2x16381x1, .i1⟩
  | 92 => ⟨S2x16381x1, .f32⟩
  | 93 => ⟨S2x16381x1, .f32⟩
  | 94 => ⟨S2x16381x1, .f32⟩
  | 95 => ⟨S2x16381x1, .f32⟩
  | 96 => ⟨S2x16381x1, .f32⟩
  | 97 => ⟨S2x16381x1, .f32⟩
  | 98 => ⟨S2x16381x1, .f32⟩
  | 99 => ⟨S2x16381x1, .f32⟩
  | 100 => ⟨S_, .f32⟩
  | 101 => ⟨S2x16381x1, .f32⟩
  | 102 => ⟨S2x16381x1, .f32⟩
  | 103 => ⟨S_, .f32⟩
  | 104 => ⟨S2x16381x1, .f32⟩
  | 105 => ⟨S2x16381x1, .f32⟩
  | 106 => ⟨S2x16381, .f32⟩
  | 107 => ⟨S_, .i32⟩
  | 108 => ⟨S16381, .i32⟩
  | 109 => ⟨S16381, .i1⟩
  | 110 => ⟨S_, .i32⟩
  | 111 => ⟨S16381, .i32⟩
  | 112 => ⟨S16381, .i32⟩
  | 113 => ⟨S16381, .i32⟩
  | 114 => ⟨S16381x1, .i32⟩
  | 115 => ⟨S2x16381x768, .f32⟩
  | 116 => ⟨S_, .i32⟩
  | 117 => ⟨S16381, .i32⟩
  | 118 => ⟨S16381, .i1⟩
  | 119 => ⟨S_, .i32⟩
  | 120 => ⟨S16381, .i32⟩
  | 121 => ⟨S16381, .i32⟩
  | 122 => ⟨S16381, .i32⟩
  | 123 => ⟨S16381x1, .i32⟩
  | 124 => ⟨S2x16381x768, .f32⟩
  | 125 => ⟨S2x16381x768, .f32⟩
  | 126 => ⟨S2x16381x768, .f32⟩
  | 127 => ⟨S2x16381x768, .f32⟩
  | _ => ⟨S2x8192x768, .f32⟩

abbrev hbmTy0_1 (i : Nat) : BufTy := match i % 128 with
  | 0 => ⟨S_, .f32⟩
  | 1 => ⟨S2x8192, .f32⟩
  | 2 => ⟨S_, .i32⟩
  | 3 => ⟨S16381, .i32⟩
  | 4 => ⟨S16381, .i1⟩
  | 5 => ⟨S_, .i32⟩
  | 6 => ⟨S16381, .i32⟩
  | 7 => ⟨S16381, .i32⟩
  | 8 => ⟨S16381, .i32⟩
  | 9 => ⟨S16381x1, .i32⟩
  | 10 => ⟨S2x8192, .f32⟩
  | 11 => ⟨S_, .i32⟩
  | 12 => ⟨S16381, .i32⟩
  | 13 => ⟨S16381, .i1⟩
  | 14 => ⟨S_, .i32⟩
  | 15 => ⟨S16381, .i32⟩
  | 16 => ⟨S16381, .i32⟩
  | 17 => ⟨S16381, .i32⟩
  | 18 => ⟨S16381x1, .i32⟩
  | 19 => ⟨S2x8192, .f32⟩
  | 20 => ⟨S_, .f32⟩
  | 21 => ⟨S2x8192, .f32⟩
  | 22 => ⟨S2x8192, .f32⟩
  | 23 => ⟨S_, .f32⟩
  | 24 => ⟨S2x8192, .f32⟩
  | 25 => ⟨S2x8192, .f32⟩
  | 26 => ⟨S_, .i32⟩
  | 27 => ⟨S16381, .i32⟩
  | 28 => ⟨S16381, .i1⟩
  | 29 => ⟨S_, .i32⟩
  | 30 => ⟨S16381, .i32⟩
  | 31 => ⟨S16381, .i32⟩
  | 32 => ⟨S16381, .i32⟩
  | 33 => ⟨S16381x1, .i32⟩
  | 34 => ⟨S2x16381, .f32⟩
  | 35 => ⟨S_, .i32⟩
  | 36 => ⟨S16381, .i32⟩
  | 37 => ⟨S16381, .i1⟩
  | 38 => ⟨S_, .i32⟩
  | 39 => ⟨S16381, .i32⟩
  | 40 => ⟨S16381, .i32⟩
  | 41 => ⟨S16381, .i32⟩
  | 42 => ⟨S16381x1, .i32⟩
  | 43 => ⟨S2x16381, .f32⟩
  | 44 => ⟨S2x16381, .f32⟩
  | 45 => ⟨S2x16381x1, .f32⟩
  | 46 => ⟨S2x16381x768, .f32⟩
  | 47 => ⟨S2x16381x768, .f32⟩
  | 48 => ⟨S_, .f32⟩
  | 49 => ⟨S2x8192x768, .f32⟩
  | 50 => ⟨S_, .i32⟩
  | 51 => ⟨S16381, .i32⟩
  | 52 => ⟨S16381, .i1⟩
  | 53 => ⟨S_, .i32⟩
  | 54 => ⟨S16381, .i32⟩
  | 55 => ⟨S16381, .i32⟩
  | 56 => ⟨S16381, .i32⟩
  | 57 => ⟨S16381x1, .i32⟩
  | 58 => ⟨S2x8192x768, .f32⟩
  | 59 => ⟨S2x16381x768, .f32⟩
  | 60 => ⟨S_, .i32⟩
  | 61 => ⟨S16381, .i32⟩
  | 62 => ⟨S16381, .i1⟩
  | 63 => ⟨S_, .i32⟩
  | 64 => ⟨S16381, .i32⟩
  | 65 => ⟨S16381, .i32⟩
  | 66 => ⟨S16381, .i32⟩
  | 67 => ⟨S16381x1, .i32⟩
  | 68 => ⟨S2x8192x768, .f32⟩
  | 69 => ⟨S2x8192x768, .f32⟩
  | 70 => ⟨S_, .f32⟩
  | 71 => ⟨S2x8192x768, .f32⟩
  | 72 => ⟨S2x8192x768, .f32⟩
  | 73 => ⟨S2x8192x768, .f32⟩
  | 74 => ⟨S_, .i32⟩
  | 75 => ⟨S16381, .i32⟩
  | 76 => ⟨S16381, .i1⟩
  | 77 => ⟨S_, .i32⟩
  | 78 => ⟨S16381, .i32⟩
  | 79 => ⟨S16381, .i32⟩
  | 80 => ⟨S16381, .i32⟩
  | 81 => ⟨S16381x1, .i32⟩
  | 82 => ⟨S2x16381x768, .f32⟩
  | 83 => ⟨S_, .i32⟩
  | 84 => ⟨S16381, .i32⟩
  | 85 => ⟨S16381, .i1⟩
  | 86 => ⟨S_, .i32⟩
  | 87 => ⟨S16381, .i32⟩
  | 88 => ⟨S16381, .i32⟩
  | 89 => ⟨S16381, .i32⟩
  | 90 => ⟨S16381x1, .i32⟩
  | 91 => ⟨S2x16381x768, .f32⟩
  | 92 => ⟨S2x16381x768, .f32⟩
  | 93 => ⟨S2x16381x768, .f32⟩
  | 94 => ⟨S2x16381x768, .f32⟩
  | 95 => ⟨S_, .f32⟩
  | 96 => ⟨S2x8192, .f32⟩
  | 97 => ⟨S_, .i32⟩
  | 98 => ⟨S16381, .i32⟩
  | 99 => ⟨S16381, .i1⟩
  | 100 => ⟨S_, .i32⟩
  | 101 => ⟨S16381, .i32⟩
  | 102 => ⟨S16381, .i32⟩
  | 103 => ⟨S16381, .i32⟩
  | 104 => ⟨S16381x1, .i32⟩
  | 105 => ⟨S2x8192, .f32⟩
  | 106 => ⟨S_, .i32⟩
  | 107 => ⟨S16381, .i32⟩
  | 108 => ⟨S16381, .i1⟩
  | 109 => ⟨S_, .i32⟩
  | 110 => ⟨S16381, .i32⟩
  | 111 => ⟨S16381, .i32⟩
  | 112 => ⟨S16381, .i32⟩
  | 113 => ⟨S16381x1, .i32⟩
  | 114 => ⟨S2x8192, .f32⟩
  | 115 => ⟨S_, .f32⟩
  | 116 => ⟨S2x8192, .f32⟩
  | 117 => ⟨S2x8192, .f32⟩
  | 118 => ⟨S_, .f32⟩
  | 119 => ⟨S2x8192, .f32⟩
  | 120 => ⟨S2x8192, .f32⟩
  | 121 => ⟨S_, .i32⟩
  | 122 => ⟨S16381, .i32⟩
  | 123 => ⟨S16381, .i1⟩
  | 124 => ⟨S_, .i32⟩
  | 125 => ⟨S16381, .i32⟩
  | 126 => ⟨S16381, .i32⟩
  | 127 => ⟨S16381, .i32⟩
  | _ => ⟨S2x8192x768, .f32⟩

abbrev hbmTy0_2 (i : Nat) : BufTy := match i % 128 with
  | 0 => ⟨S16381x1, .i32⟩
  | 1 => ⟨S2x16381, .f32⟩
  | 2 => ⟨S_, .i32⟩
  | 3 => ⟨S16381, .i32⟩
  | 4 => ⟨S16381, .i1⟩
  | 5 => ⟨S_, .i32⟩
  | 6 => ⟨S16381, .i32⟩
  | 7 => ⟨S16381, .i32⟩
  | 8 => ⟨S16381, .i32⟩
  | 9 => ⟨S16381x1, .i32⟩
  | 10 => ⟨S2x16381, .f32⟩
  | 11 => ⟨S2x16381, .f32⟩
  | 12 => ⟨S2x16381x1, .f32⟩
  | 13 => ⟨S2x16381x768, .f32⟩
  | 14 => ⟨S2x16381x768, .f32⟩
  | 15 => ⟨S_, .f32⟩
  | 16 => ⟨S2x8192x768, .f32⟩
  | 17 => ⟨S_, .i32⟩
  | 18 => ⟨S16381, .i32⟩
  | 19 => ⟨S16381, .i1⟩
  | 20 => ⟨S_, .i32⟩
  | 21 => ⟨S16381, .i32⟩
  | 22 => ⟨S16381, .i32⟩
  | 23 => ⟨S16381, .i32⟩
  | 24 => ⟨S16381x1, .i32⟩
  | 25 => ⟨S2x8192x768, .f32⟩
  | 26 => ⟨S2x16381x768, .f32⟩
  | 27 => ⟨S_, .i32⟩
  | 28 => ⟨S16381, .i32⟩
  | 29 => ⟨S16381, .i1⟩
  | 30 => ⟨S_, .i32⟩
  | 31 => ⟨S16381, .i32⟩
  | 32 => ⟨S16381, .i32⟩
  | 33 => ⟨S16381, .i32⟩
  | 34 => ⟨S16381x1, .i32⟩
  | 35 => ⟨S2x8192x768, .f32⟩
  | 36 => ⟨S2x8192x768, .f32⟩
  | 37 => ⟨S_, .f32⟩
  | 38 => ⟨S2x8192x768, .f32⟩
  | 39 => ⟨S2x8192x768, .f32⟩
  | 40 => ⟨S2x8192x768, .f32⟩
  | 41 => ⟨S_, .i32⟩
  | 42 => ⟨S16381, .i32⟩
  | 43 => ⟨S16381, .i1⟩
  | 44 => ⟨S_, .i32⟩
  | 45 => ⟨S16381, .i32⟩
  | 46 => ⟨S16381, .i32⟩
  | 47 => ⟨S16381, .i32⟩
  | 48 => ⟨S16381x1, .i32⟩
  | 49 => ⟨S2x16381x768, .f32⟩
  | 50 => ⟨S_, .i32⟩
  | 51 => ⟨S16381, .i32⟩
  | 52 => ⟨S16381, .i1⟩
  | 53 => ⟨S_, .i32⟩
  | 54 => ⟨S16381, .i32⟩
  | 55 => ⟨S16381, .i32⟩
  | 56 => ⟨S16381, .i32⟩
  | 57 => ⟨S16381x1, .i32⟩
  | 58 => ⟨S2x16381x768, .f32⟩
  | 59 => ⟨S2x16381x768, .f32⟩
  | 60 => ⟨S2x16381x768, .f32⟩
  | 61 => ⟨S2x16381x768, .f32⟩
  | 62 => ⟨S_, .f32⟩
  | 63 => ⟨S2x8192, .f32⟩
  | 64 => ⟨S_, .i32⟩
  | 65 => ⟨S16381, .i32⟩
  | 66 => ⟨S16381, .i1⟩
  | 67 => ⟨S_, .i32⟩
  | 68 => ⟨S16381, .i32⟩
  | 69 => ⟨S16381, .i32⟩
  | 70 => ⟨S16381, .i32⟩
  | 71 => ⟨S16381x1, .i32⟩
  | 72 => ⟨S2x8192, .f32⟩
  | 73 => ⟨S_, .i32⟩
  | 74 => ⟨S16381, .i32⟩
  | 75 => ⟨S16381, .i1⟩
  | 76 => ⟨S_, .i32⟩
  | 77 => ⟨S16381, .i32⟩
  | 78 => ⟨S16381, .i32⟩
  | 79 => ⟨S16381, .i32⟩
  | 80 => ⟨S16381x1, .i32⟩
  | 81 => ⟨S2x8192, .f32⟩
  | 82 => ⟨S_, .f32⟩
  | 83 => ⟨S2x8192, .f32⟩
  | 84 => ⟨S2x8192, .f32⟩
  | 85 => ⟨S_, .f32⟩
  | 86 => ⟨S2x8192, .f32⟩
  | 87 => ⟨S2x8192, .f32⟩
  | 88 => ⟨S_, .i32⟩
  | 89 => ⟨S16381, .i32⟩
  | 90 => ⟨S16381, .i1⟩
  | 91 => ⟨S_, .i32⟩
  | 92 => ⟨S16381, .i32⟩
  | 93 => ⟨S16381, .i32⟩
  | 94 => ⟨S16381, .i32⟩
  | 95 => ⟨S16381x1, .i32⟩
  | 96 => ⟨S2x16381, .f32⟩
  | 97 => ⟨S_, .i32⟩
  | 98 => ⟨S16381, .i32⟩
  | 99 => ⟨S16381, .i1⟩
  | 100 => ⟨S_, .i32⟩
  | 101 => ⟨S16381, .i32⟩
  | 102 => ⟨S16381, .i32⟩
  | 103 => ⟨S16381, .i32⟩
  | 104 => ⟨S16381x1, .i32⟩
  | 105 => ⟨S2x16381, .f32⟩
  | 106 => ⟨S2x16381, .f32⟩
  | 107 => ⟨S2x16381x1, .f32⟩
  | 108 => ⟨S2x16381x768, .f32⟩
  | 109 => ⟨S2x16381x768, .f32⟩
  | 110 => ⟨S_, .f32⟩
  | 111 => ⟨S2x8192x768, .f32⟩
  | 112 => ⟨S_, .i32⟩
  | 113 => ⟨S16381, .i32⟩
  | 114 => ⟨S16381, .i1⟩
  | 115 => ⟨S_, .i32⟩
  | 116 => ⟨S16381, .i32⟩
  | 117 => ⟨S16381, .i32⟩
  | 118 => ⟨S16381, .i32⟩
  | 119 => ⟨S16381x1, .i32⟩
  | 120 => ⟨S2x8192x768, .f32⟩
  | 121 => ⟨S2x16381x768, .f32⟩
  | 122 => ⟨S_, .i32⟩
  | 123 => ⟨S16381, .i32⟩
  | 124 => ⟨S16381, .i1⟩
  | 125 => ⟨S_, .i32⟩
  | 126 => ⟨S16381, .i32⟩
  | 127 => ⟨S16381, .i32⟩
  | _ => ⟨S2x8192x768, .f32⟩

abbrev hbmTy0_3 (i : Nat) : BufTy := match i % 128 with
  | 0 => ⟨S16381, .i32⟩
  | 1 => ⟨S16381x1, .i32⟩
  | 2 => ⟨S2x8192x768, .f32⟩
  | 3 => ⟨S2x8192x768, .f32⟩
  | 4 => ⟨S_, .f32⟩
  | 5 => ⟨S2x8192x768, .f32⟩
  | 6 => ⟨S2x8192x768, .f32⟩
  | 7 => ⟨S2x8192x768, .f32⟩
  | 8 => ⟨S2x8192x768, .f32⟩
  | 9 => ⟨S_, .f32⟩
  | 10 => ⟨S2x8192, .f32⟩
  | 11 => ⟨S2x8192x1, .f32⟩
  | 12 => ⟨S_, .f32⟩
  | 13 => ⟨S2x8192x1, .f32⟩
  | 14 => ⟨S2x8192x1, .f32⟩
  | 15 => ⟨S_, .i32⟩
  | 16 => ⟨S_, .f32⟩
  | 17 => ⟨S2x8192, .f32⟩
  | 18 => ⟨S2x8192x1, .f32⟩
  | 19 => ⟨S_, .f32⟩
  | 20 => ⟨S2x8192x1, .f32⟩
  | 21 => ⟨S2x8192x1, .f32⟩
  | 22 => ⟨S2x8192x768, .f32⟩
  | 23 => ⟨S2x8192x768, .f32⟩
  | 24 => ⟨S2x8192x768, .f32⟩
  | 25 => ⟨S_, .f32⟩
  | 26 => ⟨S_, .f32⟩
  | 27 => ⟨S_, .f32⟩
  | 28 => ⟨S_, .f32⟩
  | 29 => ⟨S2x8192, .f32⟩
  | 30 => ⟨S2x8192x1, .f32⟩
  | 31 => ⟨S2x8192x1, .f32⟩
  | 32 => ⟨S2x8192x1, .f32⟩
  | 33 => ⟨S_, .f32⟩
  | 34 => ⟨S_, .i1⟩
  | 35 => ⟨S_, .f32⟩
  | 36 => ⟨S_, .f32⟩
  | 37 => ⟨S2x8192x1, .f32⟩
  | 38 => ⟨S2x8192x1, .f32⟩
  | 39 => ⟨S2x8192x768, .f32⟩
  | 40 => ⟨S2x8192x768, .f32⟩
  | 41 => ⟨S_, .f32⟩
  | 42 => ⟨S2x8192x1, .f32⟩
  | 43 => ⟨S2x8192x1, .f32⟩
  | 44 => ⟨S2x8192x1, .f32⟩
  | 45 => ⟨S2x8192x768, .f32⟩
  | 46 => ⟨S2x8192x768, .f32⟩
  | 47 => ⟨S1x1x768, .f32⟩
  | 48 => ⟨S2x8192x768, .f32⟩
  | 49 => ⟨S2x8192x768, .f32⟩
  | 50 => ⟨S1x1x768, .f32⟩
  | 51 => ⟨S2x8192x768, .f32⟩
  | 52 => ⟨S2x8192x768, .f32⟩
  | 53 => ⟨S_, .i32⟩
  | 54 => ⟨S16381, .i32⟩
  | 55 => ⟨S16381, .i1⟩
  | 56 => ⟨S_, .i32⟩
  | 57 => ⟨S16381, .i32⟩
  | 58 => ⟨S16381, .i32⟩
  | 59 => ⟨S16381, .i32⟩
  | 60 => ⟨S16381x1, .i32⟩
  | 61 => ⟨S2x16381x768, .f32⟩
  | 62 => ⟨S_, .i32⟩
  | 63 => ⟨S16381, .i32⟩
  | 64 => ⟨S16381, .i1⟩
  | 65 => ⟨S_, .i32⟩
  | 66 => ⟨S16381, .i32⟩
  | 67 => ⟨S16381, .i32⟩
  | 68 => ⟨S16381, .i32⟩
  | 69 => ⟨S16381x1, .i32⟩
  | 70 => ⟨S2x16381x768, .f32⟩
  | 71 => ⟨S2x16381x768, .f32⟩
  | 72 => ⟨S2x16381x768, .f32⟩
  | 73 => ⟨S_, .f32⟩
  | 74 => ⟨S2x16381, .f32⟩
  | 75 => ⟨S2x16381, .f32⟩
  | 76 => ⟨S_, .f32⟩
  | 77 => ⟨S2, .f32⟩
  | 78 => ⟨S_, .f32⟩
  | 79 => ⟨S2, .f32⟩
  | 80 => ⟨S2, .f32⟩
  | _ => ⟨S2x8192x768, .f32⟩

abbrev hbmTy (i : Nat) : BufTy := match i / 128 with
  | 0 => hbmTy0_0 i
  | 1 => hbmTy0_1 i
  | 2 => hbmTy0_2 i
  | 3 => hbmTy0_3 i
  | _ => ⟨S2x8192x768, .f32⟩

abbrev bufTy : (tb : Table) → Fin (tcTables nBuf tb) → BufTy
  | .hbm, ⟨i, _⟩ => hbmTy i
  | _, _ => ⟨S2x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_v0 : Ref sig .tc := ⟨.hbm, 43, rfl⟩
abbrev main_call0_cst : Ref sig .tc := ⟨.hbm, 44, rfl⟩
abbrev main_call0_v1 : Ref sig .tc := ⟨.hbm, 45, rfl⟩
abbrev main_v27 : Ref sig .tc := ⟨.hbm, 46, rfl⟩
abbrev main_call1_v0 : Ref sig .tc := ⟨.hbm, 47, rfl⟩
abbrev main_call1_cst : Ref sig .tc := ⟨.hbm, 48, rfl⟩
abbrev main_call1_v1 : Ref sig .tc := ⟨.hbm, 49, rfl⟩
abbrev main_v28 : Ref sig .tc := ⟨.hbm, 50, rfl⟩
abbrev main_call2_v0 : Ref sig .tc := ⟨.hbm, 51, rfl⟩
abbrev main_call2_cst : Ref sig .tc := ⟨.hbm, 52, rfl⟩
abbrev main_call2_v1 : Ref sig .tc := ⟨.hbm, 53, rfl⟩
abbrev main_v29 : Ref sig .tc := ⟨.hbm, 54, rfl⟩
abbrev main_v30 : Ref sig .tc := ⟨.hbm, 55, rfl⟩
abbrev main_cst : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call3_cst : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_v56 : Ref sig .tc := ⟨.hbm, 99, rfl⟩
abbrev main_cst_9 : Ref sig .tc := ⟨.hbm, 100, rfl⟩
abbrev main_v57 : Ref sig .tc := ⟨.hbm, 101, rfl⟩
abbrev main_v58 : Ref sig .tc := ⟨.hbm, 102, rfl⟩
abbrev main_cst_10 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_11 : Ref sig .tc := ⟨.hbm, 107, rfl⟩
abbrev main_v62 : Ref sig .tc := ⟨.hbm, 108, rfl⟩
abbrev main_v63 : Ref sig .tc := ⟨.hbm, 109, rfl⟩
abbrev main_c_12 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_c_13 : Ref sig .tc := ⟨.hbm, 116, rfl⟩
abbrev main_v69 : Ref sig .tc := ⟨.hbm, 117, rfl⟩
abbrev main_v70 : Ref sig .tc := ⟨.hbm, 118, rfl⟩
abbrev main_c_14 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_cst_15 : Ref sig .tc := ⟨.hbm, 128, rfl⟩
abbrev main_v79 : Ref sig .tc := ⟨.hbm, 129, rfl⟩
abbrev main_c_16 : Ref sig .tc := ⟨.hbm, 130, rfl⟩
abbrev main_v80 : Ref sig .tc := ⟨.hbm, 131, rfl⟩
abbrev main_v81 : Ref sig .tc := ⟨.hbm, 132, rfl⟩
abbrev main_c_17 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_c_18 : Ref sig .tc := ⟨.hbm, 139, rfl⟩
abbrev main_v87 : Ref sig .tc := ⟨.hbm, 140, rfl⟩
abbrev main_v88 : Ref sig .tc := ⟨.hbm, 141, rfl⟩
abbrev main_c_19 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_cst_20 : Ref sig .tc := ⟨.hbm, 148, rfl⟩
abbrev main_v94 : Ref sig .tc := ⟨.hbm, 149, rfl⟩
abbrev main_v95 : Ref sig .tc := ⟨.hbm, 150, rfl⟩
abbrev main_cst_21 : Ref sig .tc := ⟨.hbm, 151, rfl⟩
abbrev main_v96 : Ref sig .tc := ⟨.hbm, 152, rfl⟩
abbrev main_v97 : Ref sig .tc := ⟨.hbm, 153, rfl⟩
abbrev main_c_22 : Ref sig .tc := ⟨.hbm, 154, rfl⟩
abbrev main_v98 : Ref sig .tc := ⟨.hbm, 155, rfl⟩
abbrev main_v99 : Ref sig .tc := ⟨.hbm, 156, rfl⟩
abbrev main_c_23 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_c_24 : Ref sig .tc := ⟨.hbm, 163, rfl⟩
abbrev main_v105 : Ref sig .tc := ⟨.hbm, 164, rfl⟩
abbrev main_v106 : Ref sig .tc := ⟨.hbm, 165, rfl⟩
abbrev main_c_25 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_cst_26 : Ref sig .tc := ⟨.hbm, 176, rfl⟩
abbrev main_v116 : Ref sig .tc := ⟨.hbm, 177, rfl⟩
abbrev main_c_27 : Ref sig .tc := ⟨.hbm, 178, rfl⟩
abbrev main_v117 : Ref sig .tc := ⟨.hbm, 179, rfl⟩
abbrev main_v118 : Ref sig .tc := ⟨.hbm, 180, rfl⟩
abbrev main_c_28 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_c_29 : Ref sig .tc := ⟨.hbm, 188, rfl⟩
abbrev main_v125 : Ref sig .tc := ⟨.hbm, 189, rfl⟩
abbrev main_v126 : Ref sig .tc := ⟨.hbm, 190, rfl⟩
abbrev main_c_30 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_cst_31 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_c_32 : Ref sig .tc := ⟨.hbm, 202, rfl⟩
abbrev main_v136 : Ref sig .tc := ⟨.hbm, 203, rfl⟩
abbrev main_v137 : Ref sig .tc := ⟨.hbm, 204, rfl⟩
abbrev main_c_33 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_c_34 : Ref sig .tc := ⟨.hbm, 211, rfl⟩
abbrev main_v143 : Ref sig .tc := ⟨.hbm, 212, rfl⟩
abbrev main_v144 : Ref sig .tc := ⟨.hbm, 213, rfl⟩
abbrev main_c_35 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_cst_36 : Ref sig .tc := ⟨.hbm, 223, rfl⟩
abbrev main_v153 : Ref sig .tc := ⟨.hbm, 224, rfl⟩
abbrev main_c_37 : Ref sig .tc := ⟨.hbm, 225, rfl⟩
abbrev main_v154 : Ref sig .tc := ⟨.hbm, 226, rfl⟩
abbrev main_v155 : Ref sig .tc := ⟨.hbm, 227, rfl⟩
abbrev main_c_38 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_c_39 : Ref sig .tc := ⟨.hbm, 234, rfl⟩
abbrev main_v161 : Ref sig .tc := ⟨.hbm, 235, rfl⟩
abbrev main_v162 : Ref sig .tc := ⟨.hbm, 236, rfl⟩
abbrev main_c_40 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_cst_41 : Ref sig .tc := ⟨.hbm, 243, rfl⟩
abbrev main_v168 : Ref sig .tc := ⟨.hbm, 244, rfl⟩
abbrev main_v169 : Ref sig .tc := ⟨.hbm, 245, rfl⟩
abbrev main_cst_42 : Ref sig .tc := ⟨.hbm, 246, rfl⟩
abbrev main_v170 : Ref sig .tc := ⟨.hbm, 247, rfl⟩
abbrev main_v171 : Ref sig .tc := ⟨.hbm, 248, rfl⟩
abbrev main_c_43 : Ref sig .tc := ⟨.hbm, 249, rfl⟩
abbrev main_v172 : Ref sig .tc := ⟨.hbm, 250, rfl⟩
abbrev main_v173 : Ref sig .tc := ⟨.hbm, 251, rfl⟩
abbrev main_c_44 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_c_45 : Ref sig .tc := ⟨.hbm, 258, rfl⟩
abbrev main_v179 : Ref sig .tc := ⟨.hbm, 259, rfl⟩
abbrev main_v180 : Ref sig .tc := ⟨.hbm, 260, rfl⟩
abbrev main_c_46 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_cst_47 : Ref sig .tc := ⟨.hbm, 271, rfl⟩
abbrev main_v190 : Ref sig .tc := ⟨.hbm, 272, rfl⟩
abbrev main_c_48 : Ref sig .tc := ⟨.hbm, 273, rfl⟩
abbrev main_v191 : Ref sig .tc := ⟨.hbm, 274, rfl⟩
abbrev main_v192 : Ref sig .tc := ⟨.hbm, 275, rfl⟩
abbrev main_c_49 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_c_50 : Ref sig .tc := ⟨.hbm, 283, rfl⟩
abbrev main_v199 : Ref sig .tc := ⟨.hbm, 284, rfl⟩
abbrev main_v200 : Ref sig .tc := ⟨.hbm, 285, rfl⟩
abbrev main_c_51 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_cst_52 : Ref sig .tc := ⟨.hbm, 293, rfl⟩
abbrev main_v207 : Ref sig .tc := ⟨.hbm, 294, rfl⟩
abbrev main_v208 : Ref sig .tc := ⟨.hbm, 295, rfl⟩
abbrev main_v209 : Ref sig .tc := ⟨.hbm, 296, rfl⟩
abbrev main_c_53 : Ref sig .tc := ⟨.hbm, 297, rfl⟩
abbrev main_v210 : Ref sig .tc := ⟨.hbm, 298, rfl⟩
abbrev main_v211 : Ref sig .tc := ⟨.hbm, 299, rfl⟩
abbrev main_c_54 : Ref sig .tc := ⟨.hbm, 300, rfl⟩
abbrev main_v212 : Ref sig .tc := ⟨.hbm, 301, rfl⟩
abbrev main_v213 : Ref sig .tc := ⟨.hbm, 302, rfl⟩
abbrev main_v214 : Ref sig .tc := ⟨.hbm, 303, rfl⟩
abbrev main_v215 : Ref sig .tc := ⟨.hbm, 304, rfl⟩
abbrev main_v216 : Ref sig .tc := ⟨.hbm, 305, rfl⟩
abbrev main_c_55 : Ref sig .tc := ⟨.hbm, 306, rfl⟩
abbrev main_v217 : Ref sig .tc := ⟨.hbm, 307, rfl⟩
abbrev main_v218 : Ref sig .tc := ⟨.hbm, 308, rfl⟩
abbrev main_c_56 : Ref sig .tc := ⟨.hbm, 309, rfl⟩
abbrev main_v219 : Ref sig .tc := ⟨.hbm, 310, rfl⟩
abbrev main_v220 : Ref sig .tc := ⟨.hbm, 311, rfl⟩
abbrev main_v221 : Ref sig .tc := ⟨.hbm, 312, rfl⟩
abbrev main_v222 : Ref sig .tc := ⟨.hbm, 313, rfl⟩
abbrev main_v223 : Ref sig .tc := ⟨.hbm, 314, rfl⟩
abbrev main_v224 : Ref sig .tc := ⟨.hbm, 315, rfl⟩
abbrev main_v225 : Ref sig .tc := ⟨.hbm, 316, rfl⟩
abbrev main_v226 : Ref sig .tc := ⟨.hbm, 317, rfl⟩
abbrev main_cst_57 : Ref sig .tc := ⟨.hbm, 318, rfl⟩
abbrev main_v227 : Ref sig .tc := ⟨.hbm, 319, rfl⟩
abbrev main_c_58 : Ref sig .tc := ⟨.hbm, 320, rfl⟩
abbrev main_v228 : Ref sig .tc := ⟨.hbm, 321, rfl⟩
abbrev main_v229 : Ref sig .tc := ⟨.hbm, 322, rfl⟩
abbrev main_c_59 : Ref sig .tc := ⟨.hbm, 323, rfl⟩
abbrev main_v230 : Ref sig .tc := ⟨.hbm, 324, rfl⟩
abbrev main_v231 : Ref sig .tc := ⟨.hbm, 325, rfl⟩
abbrev main_v232 : Ref sig .tc := ⟨.hbm, 326, rfl⟩
abbrev main_v233 : Ref sig .tc := ⟨.hbm, 327, rfl⟩
abbrev main_v234 : Ref sig .tc := ⟨.hbm, 328, rfl⟩
abbrev main_c_60 : Ref sig .tc := ⟨.hbm, 329, rfl⟩
abbrev main_v235 : Ref sig .tc := ⟨.hbm, 330, rfl⟩
abbrev main_v236 : Ref sig .tc := ⟨.hbm, 331, rfl⟩
abbrev main_c_61 : Ref sig .tc := ⟨.hbm, 332, rfl⟩
abbrev main_v237 : Ref sig .tc := ⟨.hbm, 333, rfl⟩
abbrev main_v238 : Ref sig .tc := ⟨.hbm, 334, rfl⟩
abbrev main_v239 : Ref sig .tc := ⟨.hbm, 335, rfl⟩
abbrev main_v240 : Ref sig .tc := ⟨.hbm, 336, rfl⟩
abbrev main_v241 : Ref sig .tc := ⟨.hbm, 337, rfl⟩
abbrev main_cst_62 : Ref sig .tc := ⟨.hbm, 338, rfl⟩
abbrev main_v242 : Ref sig .tc := ⟨.hbm, 339, rfl⟩
abbrev main_v243 : Ref sig .tc := ⟨.hbm, 340, rfl⟩
abbrev main_cst_63 : Ref sig .tc := ⟨.hbm, 341, rfl⟩
abbrev main_v244 : Ref sig .tc := ⟨.hbm, 342, rfl⟩
abbrev main_v245 : Ref sig .tc := ⟨.hbm, 343, rfl⟩
abbrev main_c_64 : Ref sig .tc := ⟨.hbm, 344, rfl⟩
abbrev main_v246 : Ref sig .tc := ⟨.hbm, 345, rfl⟩
abbrev main_v247 : Ref sig .tc := ⟨.hbm, 346, rfl⟩
abbrev main_c_65 : Ref sig .tc := ⟨.hbm, 347, rfl⟩
abbrev main_v248 : Ref sig .tc := ⟨.hbm, 348, rfl⟩
abbrev main_v249 : Ref sig .tc := ⟨.hbm, 349, rfl⟩
abbrev main_v250 : Ref sig .tc := ⟨.hbm, 350, rfl⟩
abbrev main_v251 : Ref sig .tc := ⟨.hbm, 351, rfl⟩
abbrev main_v252 : Ref sig .tc := ⟨.hbm, 352, rfl⟩
abbrev main_c_66 : Ref sig .tc := ⟨.hbm, 353, rfl⟩
abbrev main_v253 : Ref sig .tc := ⟨.hbm, 354, rfl⟩
abbrev main_v254 : Ref sig .tc := ⟨.hbm, 355, rfl⟩
abbrev main_c_67 : Ref sig .tc := ⟨.hbm, 356, rfl⟩
abbrev main_v255 : Ref sig .tc := ⟨.hbm, 357, rfl⟩
abbrev main_v256 : Ref sig .tc := ⟨.hbm, 358, rfl⟩
abbrev main_v257 : Ref sig .tc := ⟨.hbm, 359, rfl⟩
abbrev main_v258 : Ref sig .tc := ⟨.hbm, 360, rfl⟩
abbrev main_v259 : Ref sig .tc := ⟨.hbm, 361, rfl⟩
abbrev main_v260 : Ref sig .tc := ⟨.hbm, 362, rfl⟩
abbrev main_v261 : Ref sig .tc := ⟨.hbm, 363, rfl⟩
abbrev main_v262 : Ref sig .tc := ⟨.hbm, 364, rfl⟩
abbrev main_v263 : Ref sig .tc := ⟨.hbm, 365, rfl⟩
abbrev main_cst_68 : Ref sig .tc := ⟨.hbm, 366, rfl⟩
abbrev main_v264 : Ref sig .tc := ⟨.hbm, 367, rfl⟩
abbrev main_c_69 : Ref sig .tc := ⟨.hbm, 368, rfl⟩
abbrev main_v265 : Ref sig .tc := ⟨.hbm, 369, rfl⟩
abbrev main_v266 : Ref sig .tc := ⟨.hbm, 370, rfl⟩
abbrev main_c_70 : Ref sig .tc := ⟨.hbm, 371, rfl⟩
abbrev main_v267 : Ref sig .tc := ⟨.hbm, 372, rfl⟩
abbrev main_v268 : Ref sig .tc := ⟨.hbm, 373, rfl⟩
abbrev main_v269 : Ref sig .tc := ⟨.hbm, 374, rfl⟩
abbrev main_v270 : Ref sig .tc := ⟨.hbm, 375, rfl⟩
abbrev main_v271 : Ref sig .tc := ⟨.hbm, 376, rfl⟩
abbrev main_v272 : Ref sig .tc := ⟨.hbm, 377, rfl⟩
abbrev main_c_71 : Ref sig .tc := ⟨.hbm, 378, rfl⟩
abbrev main_v273 : Ref sig .tc := ⟨.hbm, 379, rfl⟩
abbrev main_v274 : Ref sig .tc := ⟨.hbm, 380, rfl⟩
abbrev main_c_72 : Ref sig .tc := ⟨.hbm, 381, rfl⟩
abbrev main_v275 : Ref sig .tc := ⟨.hbm, 382, rfl⟩
abbrev main_v276 : Ref sig .tc := ⟨.hbm, 383, rfl⟩
abbrev main_v277 : Ref sig .tc := ⟨.hbm, 384, rfl⟩
abbrev main_v278 : Ref sig .tc := ⟨.hbm, 385, rfl⟩
abbrev main_v279 : Ref sig .tc := ⟨.hbm, 386, rfl⟩
abbrev main_v280 : Ref sig .tc := ⟨.hbm, 387, rfl⟩
abbrev main_cst_73 : Ref sig .tc := ⟨.hbm, 388, rfl⟩
abbrev main_v281 : Ref sig .tc := ⟨.hbm, 389, rfl⟩
abbrev main_v282 : Ref sig .tc := ⟨.hbm, 390, rfl⟩
abbrev main_v283 : Ref sig .tc := ⟨.hbm, 391, rfl⟩
abbrev main_v284 : Ref sig .tc := ⟨.hbm, 392, rfl⟩
abbrev main_cst_74 : Ref sig .tc := ⟨.hbm, 393, rfl⟩
abbrev main_v285 : Ref sig .tc := ⟨.hbm, 394, rfl⟩
abbrev main_v286 : Ref sig .tc := ⟨.hbm, 395, rfl⟩
abbrev main_cst_75 : Ref sig .tc := ⟨.hbm, 396, rfl⟩
abbrev main_v287 : Ref sig .tc := ⟨.hbm, 397, rfl⟩
abbrev main_v288 : Ref sig .tc := ⟨.hbm, 398, rfl⟩
abbrev main_c_76 : Ref sig .tc := ⟨.hbm, 399, rfl⟩
abbrev main_call4_cst : Ref sig .tc := ⟨.hbm, 400, rfl⟩
abbrev main_call4_v0 : Ref sig .tc := ⟨.hbm, 401, rfl⟩
abbrev main_call4_v1 : Ref sig .tc := ⟨.hbm, 402, rfl⟩
abbrev main_call4_cst_0 : Ref sig .tc := ⟨.hbm, 403, rfl⟩
abbrev main_call4_v2 : Ref sig .tc := ⟨.hbm, 404, rfl⟩
abbrev main_call4_v3 : Ref sig .tc := ⟨.hbm, 405, rfl⟩
abbrev main_call4_v4 : Ref sig .tc := ⟨.hbm, 406, rfl⟩
abbrev main_call4_v5 : Ref sig .tc := ⟨.hbm, 407, rfl⟩
abbrev main_call4_v6 : Ref sig .tc := ⟨.hbm, 408, rfl⟩
abbrev main_call4_v7 : Ref sig .tc := ⟨.hbm, 409, rfl⟩
abbrev main_call4_cst_1 : Ref sig .tc := ⟨.hbm, 410, rfl⟩
abbrev main_call4_v8 : Ref sig .tc := ⟨.hbm, 411, rfl⟩
abbrev main_call4_cst_2 : Ref sig .tc := ⟨.hbm, 412, rfl⟩
abbrev main_call4_v9 : Ref sig .tc := ⟨.hbm, 413, rfl⟩
abbrev main_call4_v10 : Ref sig .tc := ⟨.hbm, 414, rfl⟩
abbrev main_call4_v11 : Ref sig .tc := ⟨.hbm, 415, rfl⟩
abbrev main_call4_v12 : Ref sig .tc := ⟨.hbm, 416, rfl⟩
abbrev main_call4_cst_3 : Ref sig .tc := ⟨.hbm, 417, rfl⟩
abbrev main_call4_v13 : Ref sig .tc := ⟨.hbm, 418, rfl⟩
abbrev main_call4_cst_4 : Ref sig .tc := ⟨.hbm, 419, rfl⟩
abbrev main_call4_call0_v0 : Ref sig .tc := ⟨.hbm, 420, rfl⟩
abbrev main_call4_call0_v1 : Ref sig .tc := ⟨.hbm, 421, rfl⟩
abbrev main_v289 : Ref sig .tc := ⟨.hbm, 422, rfl⟩
abbrev main_v290 : Ref sig .tc := ⟨.hbm, 423, rfl⟩
abbrev main_v291 : Ref sig .tc := ⟨.hbm, 424, rfl⟩
abbrev main_cst_77 : Ref sig .tc := ⟨.hbm, 425, rfl⟩
abbrev main_v292 : Ref sig .tc := ⟨.hbm, 426, rfl⟩
abbrev main_v293 : Ref sig .tc := ⟨.hbm, 427, rfl⟩
abbrev main_v294 : Ref sig .tc := ⟨.hbm, 428, rfl⟩
abbrev main_v295 : Ref sig .tc := ⟨.hbm, 429, rfl⟩
abbrev main_v296 : Ref sig .tc := ⟨.hbm, 430, rfl⟩
abbrev main_v297 : Ref sig .tc := ⟨.hbm, 431, rfl⟩
abbrev main_v298 : Ref sig .tc := ⟨.hbm, 432, rfl⟩
abbrev main_v299 : Ref sig .tc := ⟨.hbm, 433, rfl⟩
abbrev main_v300 : Ref sig .tc := ⟨.hbm, 434, rfl⟩
abbrev main_v301 : Ref sig .tc := ⟨.hbm, 435, rfl⟩
abbrev main_v302 : Ref sig .tc := ⟨.hbm, 436, rfl⟩
abbrev main_c_78 : Ref sig .tc := ⟨.hbm, 437, rfl⟩
abbrev main_v303 : Ref sig .tc := ⟨.hbm, 438, rfl⟩
abbrev main_v304 : Ref sig .tc := ⟨.hbm, 439, rfl⟩
abbrev main_c_79 : Ref sig .tc := ⟨.hbm, 440, rfl⟩
abbrev main_v305 : Ref sig .tc := ⟨.hbm, 441, rfl⟩
abbrev main_v306 : Ref sig .tc := ⟨.hbm, 442, rfl⟩
abbrev main_v307 : Ref sig .tc := ⟨.hbm, 443, rfl⟩
abbrev main_v308 : Ref sig .tc := ⟨.hbm, 444, rfl⟩
abbrev main_v309 : Ref sig .tc := ⟨.hbm, 445, rfl⟩
abbrev main_c_80 : Ref sig .tc := ⟨.hbm, 446, rfl⟩
abbrev main_v310 : Ref sig .tc := ⟨.hbm, 447, rfl⟩
abbrev main_v311 : Ref sig .tc := ⟨.hbm, 448, rfl⟩
abbrev main_c_81 : Ref sig .tc := ⟨.hbm, 449, rfl⟩
abbrev main_v312 : Ref sig .tc := ⟨.hbm, 450, rfl⟩
abbrev main_v313 : Ref sig .tc := ⟨.hbm, 451, rfl⟩
abbrev main_v314 : Ref sig .tc := ⟨.hbm, 452, rfl⟩
abbrev main_v315 : Ref sig .tc := ⟨.hbm, 453, rfl⟩
abbrev main_v316 : Ref sig .tc := ⟨.hbm, 454, rfl⟩
abbrev main_v317 : Ref sig .tc := ⟨.hbm, 455, rfl⟩
abbrev main_v318 : Ref sig .tc := ⟨.hbm, 456, rfl⟩
abbrev main_cst_82 : Ref sig .tc := ⟨.hbm, 457, rfl⟩
abbrev main_v319 : Ref sig .tc := ⟨.hbm, 458, rfl⟩
abbrev main_v320 : Ref sig .tc := ⟨.hbm, 459, rfl⟩
abbrev main_cst_83 : Ref sig .tc := ⟨.hbm, 460, rfl⟩
abbrev main_v321 : Ref sig .tc := ⟨.hbm, 461, rfl⟩
abbrev main_cst_84 : Ref sig .tc := ⟨.hbm, 462, rfl⟩
abbrev main_v322 : Ref sig .tc := ⟨.hbm, 463, rfl⟩
abbrev main_v323 : Ref sig .tc := ⟨.hbm, 464, rfl⟩

abbrev nD : Nat := 1
abbrev τ : Topo := Topo.v7x

variable {F : FTy → Type} [FloatOps F]
-- ==== Proof.KernelIdealRing.lean ====
/- The two window buffers of the kernel as a ring of two slots: while the body works on one window the next one is being
   copied in. This module states where each copy starts, which branch of the body runs at which grid point, and what the
   buffers, the counters and the array of hidden states hold between two grid points. -/
module

public import proofs.«01_k».proof.Proof.Gen.KernelIdeal.Frame
public import proofs.«01_k».proof.Proof.Gen.KernelIdeal.Skeleton

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host lines around the region -/

set_option maxHeartbeats 800000 in
/-- The program is the lines before the region, the region, and the lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- A buffer that is no array of the pipeline and no result of the lines after the region ends as the region found it. -/
theorem tail_keeps (dats : (p : Fin _) → (c : Dev nD) → Dat τ (Elt F) Unit ℕ (Pipeline.UD sig nD τ) ℕ (cfgs p) c) (c : Dev nD)
    (b : Ref sig .tc) (h7 : b ≠ main_v7) (h8 : b ≠ main_v8) (hb : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.unary_writes,
        StableHlo.reshape_writes, Finset.mem_singleton]
      exact ⟨StableHlo.devRef_ne_of_ne h7, StableHlo.devRef_ne_of_ne h8⟩)),
    Pipeline.withArrays_of_ne _ c (V0 m c) _ b hb]

/-! An input window's buffer holds its block at every point. -/

theorem before_in_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in_6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in_7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The branch conditions -/

/-- The first point starts its own window's copy. -/
abbrev cond0_0 (i : grid0.Coords) : Prop := k0_cond1 i = 1#1
theorem hcond0_0 : ∀ t : Fin cfg0.N, cond0_0 (grid0.coords t) ↔ t.val = 0 :=
  (by decide +kernel : ∀ t : Fin grid0.N, cond0_0 (grid0.coords t) ↔ t.val = 0)
/-- Every point but the last starts the next window's copy. -/
abbrev cond0_1 (i : grid0.Coords) : Prop := k0_cond2 i = 1#1
theorem hcond0_1 : ∀ t : Fin cfg0.N, cond0_1 (grid0.coords t) ↔ t.val < 15 :=
  (by decide +kernel : ∀ t : Fin grid0.N, cond0_1 (grid0.coords t) ↔ t.val < 15)
/-- The first block of a batch row owns the first rows of its window. -/
abbrev cond0_2 (i : grid0.Coords) : Prop := k0_cond3 i = 1#1
theorem hcond0_2 : ∀ t : Fin cfg0.N, cond0_2 (grid0.coords t) ↔ t.val % 8 = 0 :=
  (by decide +kernel : ∀ t : Fin grid0.N, cond0_2 (grid0.coords t) ↔ t.val % 8 = 0)
/-- An inner block owns the middle rows of its window. -/
abbrev cond0_3 (i : grid0.Coords) : Prop := k0_cond4 i = 1#1
theorem hcond0_3 : ∀ t : Fin cfg0.N, cond0_3 (grid0.coords t) ↔ (1 ≤ t.val % 8 ∧ t.val % 8 ≤ 6) :=
  (by decide +kernel : ∀ t : Fin grid0.N, cond0_3 (grid0.coords t) ↔ (1 ≤ t.val % 8 ∧ t.val % 8 ≤ 6))
/-- The last block of a batch row owns the last rows of its window. -/
abbrev cond0_4 (i : grid0.Coords) : Prop := k0_cond5 i = 1#1
theorem hcond0_4 : ∀ t : Fin cfg0.N, cond0_4 (grid0.coords t) ↔ t.val % 8 = 7 :=
  (by decide +kernel : ∀ t : Fin grid0.N, cond0_4 (grid0.coords t) ↔ t.val % 8 = 7)
/-- No window is idle at any point. -/
theorem live (w : Fin cfg0.W) : ∀ t : Fin cfg0.N, cfg0.idle w (grid0.coords t) = false := by
  intro t
  have h : ∀ w : Fin cfg0.W, ∀ t : Fin grid0.N, cfg0.idle w (grid0.coords t) = false := by decide +kernel
  exact h w t

/-- Each window's current staging memref at point `t`, spelled as the pipeline passes it (`bodyAt0`), and its wholeness. -/
abbrev ms0_0 (t : Fin cfg0.N) : Memref sig .tc .vmem S2x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x768 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2x1056x768 .f32 := Memref.whole cc0_scratch0
/-- The operands left in HBM that the body copies into scratch itself, whole. -/
abbrev hbM0_0 : Memref sig .tc .hbm S2x8192x768 .f32 := Memref.whole main_arg0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 12, SemLoc.dma 13] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0 ∗ semVal ((c : Thread nD τ), SemLoc.dma 13) 0) := by
  rw [Pipeline.ownSems0_eq_of_list c osem0 [0, 1] (by decide) (by decide)]; rfl
/-- The HBM operands the body moves, as references: unscoped, no window's array (`Pipeline.restRefs`). -/
def H0 : Finset (Ref sig .tc) := {main_arg0}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 12) 0 ∗ semVal ((c : Thread nD τ), SemLoc.dma 13) 0) ∗ iprop(hbPt0 c hbM0_0 (V m c main_arg0))) := by
  rw [Pipeline.ΦD_eq, scopedRest0_eq, ownSems00_eq, hbmPts0_eq]; simp only [scM0_0, owns_whole]; try rfl

/-! ## Ring 0 of kernel 0: `main_arg0` streamed through the 2 slots of `cc0_scratch0` on the cells of `cc0_scratch1`, 1 block ahead, in 16 steps -/

instance : NeZero grid0.N := ⟨by rw [N_0]; decide⟩
/-- The first row of the window of block `b`: sixteen rows before the block, kept inside the array. -/
def winStart (b : ℕ) : ℕ := min 7136 (1024 * (b % 8) - 16)
theorem winStart_le (b : ℕ) : winStart b ≤ 7136 := Nat.min_le_left _ _
theorem inb_slot0_0 (s : Fin 2) : ∀ a, (![s.val, 0, 0] : Fin 3 → Nat) a + S1x1056x768.size a ≤ S2x1056x768.size a := by
  have := s.isLt; intro a; fin_cases a <;> simp <;> omega
theorem inb_src0_0 (b : Fin 16) : ∀ a, (![(b.val / 8), winStart b.val, 0] : Fin 3 → Nat) a + S1x1056x768.size a ≤ S2x8192x768.size a := by
  have := b.isLt; have := winStart_le b.val; intro a; fin_cases a <;> simp <;> omega
theorem inb_cell0_0 (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def rslot0_0 (s : Fin 2) : Memref sig .tc .vmem S1056x768 .f32 :=
  (scM0_0.slice (Rect.unit (s := S2x1056x768) ![s.val, 0, 0] S1x1056x768.size (inb_slot0_0 s)) (fun _ => rfl)).squeeze S1056x768 squeezes_S1x1056x768_S1056x768
/-- Block `b` of the operand (the block step `b` waits), spelt as the transfers spell their source, at offsets in `b`. -/
def srcB0_0 (b : Fin 16) : Memref sig .tc .hbm S1056x768 .f32 :=
  (hbM0_0.slice (Rect.unit (s := S2x8192x768) ![(b.val / 8), winStart b.val, 0] S1x1056x768.size (inb_src0_0 b)) (fun _ => rfl)).squeeze S1056x768 squeezes_S1x1056x768_S1056x768
/-- Cell `s` of `cc0_scratch1`, spelt as the body spells a cell; its number in the pool. -/
def cellA0_0 (s : Fin 2) : DmaSems sig S_ := (cc0_scratch1.slice (Rect.unit (s := S2) ![s.val] S1.size (inb_cell0_0 s))).squeeze S_ squeezes_S1_S_
abbrev cellR0_0 (s : Fin 2) : SemLoc sig := SemLoc.dma (cellA0_0 s).sem
theorem cellR0_0_0 : cellR0_0 0 = SemLoc.dma 12 := by decide
theorem cellR0_0_1 : cellR0_0 1 = SemLoc.dma 13 := by decide

section Ring0_0
variable (c : Dev nD) (W : HbBuf0 (F := F) c hbM0_0)
/-- The operand is lent BY SHARE, one read-share copy of it per slot (the left and right halves of the full share): whatever
    blocks two transfers in flight stream — the same one twice, two that overlap —, each borrows from its own slot's copy. -/
abbrev qs0_0 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 2) (f : HbBuf0 (F := F) c (rslot0_0 s)) : sProp 𝕄 := (rslot0_0 s).view.loc (c : Thread nD τ) ↦[(rslot0_0 s).view.set]{fullShare} f
abbrev cellP0_0 (s : Fin 2) : sProp 𝕄 := semVal ((c : Thread nD τ), cellR0_0 s) 0
abbrev srcP0_0 (s : Fin 2) (b : Fin 16) : sProp 𝕄 := (srcB0_0 b).view.loc (c : Thread nD τ) ↦[(srcB0_0 b).view.set]{qs0_0 s} W
/-- (a `def`: no run reads this rest, and folded it stays out of the executor's table of held buffers) -/
def restP0_0 (s : Fin 2) (b : Fin 16) : sProp 𝕄 := ((c : Thread nD τ).loc main_arg0) ↦[Finset.univ \ (srcB0_0 b).view.set]{qs0_0 s} W
abbrev wholeP0_0 (s : Fin 2) : sProp 𝕄 := ((c : Thread nD τ).loc main_arg0) ↦[Finset.univ]{qs0_0 s} W
abbrev landed0_0 (s : Fin 2) (b : Fin 16) (f : HbBuf0 (F := F) c (rslot0_0 s)) : HbBuf0 (F := F) c (rslot0_0 s) :=
  (rslot0_0 s).view.writes (Elt F) f [⟨Rect.whole S1056x768, ReadAs.same.apply ((srcB0_0 b).view.read (Elt F) W)⟩]
abbrev flightP0_0 (s : Fin 2) (b : Fin 16) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 2) (f : HbBuf0 (F := F) c (rslot0_0 s)) : sProp 𝕄 := iprop(slotP0_0 c s f ∗ wholeP0_0 c W s)
abbrev flightW0_0 (s : Fin 2) (b : Fin 16) (f : HbBuf0 (F := F) c (rslot0_0 s)) : sProp 𝕄 := iprop(flightP0_0 c W s b f ∗ restP0_0 c W s b)
abbrev noHome0_0 (b : Fin 16) : sProp 𝕄 := iprop(emp)
/-- The ring before its step `k`: every slot free before the first; from then on block `k` in flight
    into slot `k`, slot `k + 1` KEEPING block `k - 1` (landed, readable) until the step starts block `k + 1` over it. -/
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (landed0_0 c W) k
omit [FloatOps F] in
theorem cellP0_0_0 : cellP0_0 (F := F) c 0 = semVal ((c : Thread nD τ), SemLoc.dma 12) 0 := congrArg (fun x => (semVal ((c : Thread nD τ), x) 0 : sProp 𝕄)) cellR0_0_0
omit [FloatOps F] in
theorem cellP0_0_1 : cellP0_0 (F := F) c 1 = semVal ((c : Thread nD τ), SemLoc.dma 13) 0 := congrArg (fun x => (semVal ((c : Thread nD τ), x) 0 : sProp 𝕄)) cellR0_0_1
end Ring0_0

/-! ### The slots, disjoint and covering the scratch -/

abbrev slotSet0_0 (s : Fin 2) : Finset S2x1056x768.Idx := (Rect.unit (s := S2x1056x768) ![s.val, 0, 0] S1x1056x768.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x1056x768) (0 : Fin 3) 1 (fun s : Fin 2 => (![s.val, 0, 0] : Fin 3 → Nat)) S1x1056x768.size inb_slot0_0 (fun s => by simp) rfl s s' h
theorem slots0_0_cover : Finset.univ.biUnion slotSet0_0 = Finset.univ :=
  Ring.lead_cover (s := S2x1056x768) (0 : Fin 3) 1 (fun s : Fin 2 => (![s.val, 0, 0] : Fin 3 → Nat)) S1x1056x768.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 2) (f) : slotP0_0 (F := F) c s f = (((c : Thread nD τ).loc cc0_scratch0) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 2) (b : Fin 16) : wholeP0_0 (F := F) c W s ⊣⊢ iprop(srcP0_0 c W s b ∗ restP0_0 c W s b) := by
  unfold restP0_0; exact pointsTo_split_subset (Finset.subset_univ _)
/-- the operand whole at the full share is the two copies. -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- the scratch whole at anything is its slots at something each, and back. -/
theorem slots0_0_in : iprop(∃ d, owns (c : Thread nD τ) scM0_0 fullShare d) ⊢ (iprop((∃ f, slotP0_0 (F := F) c 0 f) ∗ ∃ f, slotP0_0 (F := F) c 1 f) : sProp 𝕄) := by
  simp only [scM0_0, owns_whole]
  exact Ring.slots2_split (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp 𝕄) ⊢ iprop(∃ d, owns (c : Thread nD τ) scM0_0 fullShare d) := by
  simp only [scM0_0, owns_whole]
  exact Ring.slots2_join (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
end InOut0_0

/-- INTO THE RING: the launch's pieces — the scratch whole, the cells at zero, the operand whole — are the ring before its first step; -/
theorem ring0_0_in (c : Dev nD) :
    iprop((∃ d, owns (c : Thread nD τ) scM0_0 fullShare d) ∗ (semVal ((c : Thread nD τ), SemLoc.dma 12) 0 ∗ semVal ((c : Thread nD τ), SemLoc.dma 13) 0) ∗ hbPt0 c hbM0_0 (V m c main_arg0))
      ⊢ ringAt0_0 c (V m c main_arg0) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_arg0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_0_out (c : Dev nD) :
    ringAt0_0 c (V m c main_arg0) 16
      ⊢ iprop((∃ d, owns (c : Thread nD τ) scM0_0 fullShare d) ∗ (semVal ((c : Thread nD τ), SemLoc.dma 12) 0 ∗ semVal ((c : Thread nD τ), SemLoc.dma 13) 0) ∗ hbPt0 c hbM0_0 (V m c main_arg0)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_arg0)).2; isplitl [HW0]; · iexact HW0
    iexact HW1

/-! ### Ring 0's steps at each case's points, and its canonical names: the body's operands at point `t` are the ring's slots, blocks and cells -/

section Canon0_0
omit [FloatOps F]
set_option synthInstance.maxSize 4096
theorem coff0_0_1 : ∀ t : Fin grid0.N, cond0_0 (grid0.coords t) → (![0, 0, 0] : Fin 3 → Nat) = ![(Ring.sl 2 (t.val)).val, 0, 0] := by decide +kernel
@[sl_canon] theorem canon0_0_1 (t : Fin grid0.N) (h0 : cond0_0 (grid0.coords t)) :
    (scM0_0.slice (Rect.unit (s := S2x1056x768) ![0, 0, 0] S1x1056x768.size inb_S2x1056x768_S1x1056x768_0_0_0) (fun _ => rfl)).squeeze S1056x768 squeezes_S1x1056x768_S1056x768 = rslot0_0 (Ring.sl 2 (t.val)) :=
  congrArg (fun M : Memref sig .tc .vmem S1x1056x768 .f32 => M.squeeze S1056x768 squeezes_S1x1056x768_S1056x768) (Memref.slice_unit_congr _ (coff0_0_1 t h0) _ _ (fun _ => rfl) (fun _ => rfl))
theorem coff0_0_2 : ∀ t : Fin grid0.N, cond0_0 (grid0.coords t) → (![0] : Fin 1 → Nat) = ![(Ring.sl 2 (t.val)).val] := by decide +kernel
@[sl_canon] theorem canon0_0_2 (t : Fin grid0.N) (h0 : cond0_0 (grid0.coords t)) :
    (cc0_scratch1.slice (Rect.unit (s := S2) ![0] S1.size inb_S2_S1_0)).squeeze S_ squeezes_S1_S_ = cellA0_0 (Ring.sl 2 (t.val)) :=
  congrArg (fun A : DmaSems sig S1 => A.squeeze S_ squeezes_S1_S_) (SemArray.slice_unit_congr _ (coff0_0_2 t h0) _ _)
theorem coff0_0_3 : ∀ t : Fin grid0.N, cond0_0 (grid0.coords t) → (k0_off1 : Fin 3 → Nat) = ![((Ring.bk 16 (t.val)).val / 8), winStart (Ring.bk 16 (t.val)).val, 0] := by decide +kernel
@[sl_canon] theorem canon0_0_3 (t : Fin grid0.N) (h0 : cond0_0 (grid0.coords t)) :
    (hbM0_0.slice (Rect.unit (s := S2x8192x768) k0_off1 S1x1056x768.size (k0_off1_inb (grid0.coords t) h0)) (fun _ => rfl)).squeeze S1056x768 squeezes_S1x1056x768_S1056x768 = srcB0_0 (Ring.bk 16 (t.val)) :=
  congrArg (fun M : Memref sig .tc .hbm S1x1056x768 .f32 => M.squeeze S1056x768 squeezes_S1x1056x768_S1056x768) (Memref.slice_unit_congr _ (coff0_0_3 t h0) _ _ (fun _ => rfl) (fun _ => rfl))
theorem coff0_0_4 : ∀ t : Fin grid0.N, cond0_1 (grid0.coords t) → ((k0_off3 (grid0.coords t)) : Fin 3 → Nat) = ![(Ring.sl 2 (t.val + 1)).val, 0, 0] := by decide +kernel
@[sl_canon] theorem canon0_0_4 (t : Fin grid0.N) (h1 : cond0_1 (grid0.coords t)) :
    (scM0_0.slice (Rect.unit (s := S2x1056x768) (k0_off3 (grid0.coords t)) S1x1056x768.size (k0_off3_inb (grid0.coords t) h1)) (fun _ => rfl)).squeeze S1056x768 squeezes_S1x1056x768_S1056x768 = rslot0_0 (Ring.sl 2 (t.val + 1)) :=
  congrArg (fun M : Memref sig .tc .vmem S1x1056x768 .f32 => M.squeeze S1056x768 squeezes_S1x1056x768_S1056x768) (Memref.slice_unit_congr _ (coff0_0_4 t h1) _ _ (fun _ => rfl) (fun _ => rfl))
theorem coff0_0_5 : ∀ t : Fin grid0.N, cond0_1 (grid0.coords t) → ((k0_off2 (grid0.coords t)) : Fin 1 → Nat) = ![(Ring.sl 2 (t.val + 1)).val] := by decide +kernel
@[sl_canon] theorem canon0_0_5 (t : Fin grid0.N) (h1 : cond0_1 (grid0.coords t)) :
    (cc0_scratch1.slice (Rect.unit (s := S2) (k0_off2 (grid0.coords t)) S1.size (k0_off2_inb (grid0.coords t) h1))).squeeze S_ squeezes_S1_S_ = cellA0_0 (Ring.sl 2 (t.val + 1)) :=
  congrArg (fun A : DmaSems sig S1 => A.squeeze S_ squeezes_S1_S_) (SemArray.slice_unit_congr _ (coff0_0_5 t h1) _ _)
theorem coff0_0_6 : ∀ t : Fin grid0.N, cond0_1 (grid0.coords t) → ((k0_off4 (grid0.coords t)) : Fin 3 → Nat) = ![((Ring.bk 16 (t.val + 1)).val / 8), winStart (Ring.bk 16 (t.val + 1)).val, 0] := by decide +kernel
@[sl_canon] theorem canon0_0_6 (t : Fin grid0.N) (h1 : cond0_1 (grid0.coords t)) :
    (hbM0_0.slice (Rect.unit (s := S2x8192x768) (k0_off4 (grid0.coords t)) S1x1056x768.size (k0_off4_inb (grid0.coords t) h1)) (fun _ => rfl)).squeeze S1056x768 squeezes_S1x1056x768_S1056x768 = srcB0_0 (Ring.bk 16 (t.val + 1)) :=
  congrArg (fun M : Memref sig .tc .hbm S1x1056x768 .f32 => M.squeeze S1056x768 squeezes_S1x1056x768_S1056x768) (Memref.slice_unit_congr _ (coff0_0_6 t h1) _ _ (fun _ => rfl) (fun _ => rfl))
theorem coff0_0_7 : ∀ t : Fin grid0.N, ((k0_off6 (grid0.coords t)) : Fin 3 → Nat) = ![(Ring.sl 2 (t.val)).val, 0, 0] := by decide +kernel
@[sl_canon] theorem canon0_0_7 (t : Fin grid0.N) :
    (scM0_0.slice (Rect.unit (s := S2x1056x768) (k0_off6 (grid0.coords t)) S1x1056x768.size (k0_off6_inb (grid0.coords t))) (fun _ => rfl)).squeeze S1056x768 squeezes_S1x1056x768_S1056x768 = rslot0_0 (Ring.sl 2 (t.val)) :=
  congrArg (fun M : Memref sig .tc .vmem S1x1056x768 .f32 => M.squeeze S1056x768 squeezes_S1x1056x768_S1056x768) (Memref.slice_unit_congr _ (coff0_0_7 t ) _ _ (fun _ => rfl) (fun _ => rfl))
theorem coff0_0_8 : ∀ t : Fin grid0.N, ((k0_off5 (grid0.coords t)) : Fin 1 → Nat) = ![(Ring.sl 2 (t.val)).val] := by decide +kernel
@[sl_canon] theorem canon0_0_8 (t : Fin grid0.N) :
    (cc0_scratch1.slice (Rect.unit (s := S2) (k0_off5 (grid0.coords t)) S1.size (k0_off5_inb (grid0.coords t)))).squeeze S_ squeezes_S1_S_ = cellA0_0 (Ring.sl 2 (t.val)) :=
  congrArg (fun A : DmaSems sig S1 => A.squeeze S_ squeezes_S1_S_) (SemArray.slice_unit_congr _ (coff0_0_8 t ) _ _)
theorem coff0_0_9 : ∀ t : Fin grid0.N, k0_off8 (grid0.coords t) = ![(Ring.sl 2 t.val).val, 0, 0] := by decide +kernel
/-- The load of the window reads the slot that was waited for. -/
instance (priority := high) closedOff0_0_9 (t : Fin grid0.N) : ClosedOff (k0_off8 (grid0.coords t)) := ⟨![(Ring.sl 2 t.val).val, 0, 0], coff0_0_9 t⟩
end Canon0_0

end Cert.KernelIdeal.Run

end
-- ==== Proof.KernelIdealRunA.lean ====
/- One run of the kernel body at the very first point. -/
module

public import proofs.«01_k».proof.Proof.KernelIdealRing

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (t : Fin cfg0.N) (arg3 : Memref sig .tc .vmem S2x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S1x1 .f32) (harg6 : arg6.IsWhole) (arg7 : Memref sig .tc .vmem S768x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x1024x768 .f32) (harg11 : arg11.IsWhole) (arg12 : Memref sig .tc .vmem S1x8x128 .f32) (harg12 : arg12.IsWhole)
  (x0 : Vec F S2x384 .f32) (x1 : Vec F S1x384 .f32) (x2 : Vec F S1x384 .f32) (x3 : Vec F S1x1 .f32) (x4 : Vec F S768x768 .f32) (x5 : Vec F S1x768 .f32) (x6 : Vec F S1x768 .f32) (x7 : Vec F S1x768 .f32) (xo9 : Vec F S1x8x128 .f32) (fh0 : HbBuf0 (F := F) c hbM0_0)

set_option maxHeartbeats 1000000 in
/-- What the body stores into its two output blocks at the very first point, as lists of writes, together with the proof that it
    runs: from its inputs, its output blocks, the energy block at any contents and the ring's buffers before the point, to
    the same inputs, the outputs so written and the ring's buffers after the point. -/
def run_A (hc0 : cond0_0 (grid0.coords t)) (hc1 : cond0_1 (grid0.coords t)) (hc2 : cond0_2 (grid0.coords t)) (hc3 : ¬cond0_3 (grid0.coords t)) (hc4 : ¬cond0_4 (grid0.coords t)) :
    Σ' (L8 : List (View.Piece (Elt F) S1x1024x768 .f32)), { L9 : List (View.Piece (Elt F) S1x8x128 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xo9 ∗ Ring.free (cellP0_0 c) (slotW0_0 c fh0) (Ring.sl 2 t.val) ∗ Ring.free (cellP0_0 c) (slotW0_0 c fh0) (Ring.sl 2 (t.val + 1)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ Ring.inflight (flightW0_0 c fh0) (Ring.sl 2 (t.val + 1)) (Ring.bk 16 (t.val + 1)) ∗ Ring.kept (cellP0_0 c) (slotW0_0 c fh0) (landed0_0 c fh0) (Ring.sl 2 t.val) (Ring.bk 16 t.val) ∗ (∃ W', owes (c : Thread nD τ) 0 W')) -∗ K ⟨⟩))
          ⊢ wp frame (wpE (defs₀ (F := F)) Variants.none c none) Set.univ (cc0__friction_kernel (grid0.coords t) (Memref.whole main_arg0) (Memref.isWhole_whole _) arg3 harg3 arg4 harg4 arg5 harg5 arg6 harg6 arg7 harg7 arg8 harg8 arg9 harg9 arg10 harg10 arg11 harg11 arg12 harg12 scM0_0 (Memref.isWhole_whole _) cc0_scratch1) K } := by
  refine ⟨?_, ?_, fun W K => ?run⟩
  case run =>
    haveI : Fact (cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    haveI : Fact (¬cond0_4 (grid0.coords t)) := ⟨hc4⟩
    simp only [cc0__friction_kernel_eq_skeleton]; unfold cc0__friction_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns Ring.free Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨Hc0, ⟨%fs0, Hs0, Hw0⟩⟩, ⟨Hc1, ⟨%fs1, Hs1, Hw1⟩⟩, HW, Hk⟩
    ihave Hsp0 := (src0_0_split c fh0 (Ring.sl 2 t.val) (Ring.bk 16 t.val)).1 $$ Hw0
    icases Hsp0 with ⟨Hh0, Hr0⟩
    ihave Hsp1 := (src0_0_split c fh0 (Ring.sl 2 (t.val + 1)) (Ring.bk 16 (t.val + 1))).1 $$ Hw1
    icases Hsp1 with ⟨Hh1, Hr1⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [Hc1 Hr1]
    · iexists _; isplitl [Hc1]; · iexact Hc1
      iexact Hr1
    isplitl [Hc0 Hs0 Hh0 Hr0]
    · isplitl [Hc0]; · iexact Hc0
      iexists _; isplitl [Hs0]; · iexact Hs0
      iapply (src0_0_split c fh0 (Ring.sl 2 t.val) (Ring.bk 16 t.val)).2; isplitl [Hh0]; · iexact Hh0
      iexact Hr0
    iexists _; iexact HW

end Cert.KernelIdeal.Run

end
-- ==== Proof.KernelIdealRunB.lean ====
/- One run of the kernel body at a block inside a batch row. -/
module

public import proofs.«01_k».proof.Proof.KernelIdealRunA

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (t : Fin cfg0.N) (arg3 : Memref sig .tc .vmem S2x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S1x1 .f32) (harg6 : arg6.IsWhole) (arg7 : Memref sig .tc .vmem S768x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x1024x768 .f32) (harg11 : arg11.IsWhole) (arg12 : Memref sig .tc .vmem S1x8x128 .f32) (harg12 : arg12.IsWhole)
  (x0 : Vec F S2x384 .f32) (x1 : Vec F S1x384 .f32) (x2 : Vec F S1x384 .f32) (x3 : Vec F S1x1 .f32) (x4 : Vec F S768x768 .f32) (x5 : Vec F S1x768 .f32) (x6 : Vec F S1x768 .f32) (x7 : Vec F S1x768 .f32) (xo9 : Vec F S1x8x128 .f32) (fh0 : HbBuf0 (F := F) c hbM0_0)

set_option maxHeartbeats 1000000 in
/-- What the body stores into its two output blocks at a block inside a batch row, as lists of writes, together with the proof that it
    runs: from its inputs, its output blocks, the energy block at any contents and the ring's buffers before the point, to
    the same inputs, the outputs so written and the ring's buffers after the point. -/
def run_B (hc0 : ¬cond0_0 (grid0.coords t)) (hc1 : cond0_1 (grid0.coords t)) (hc2 : ¬cond0_2 (grid0.coords t)) (hc3 : cond0_3 (grid0.coords t)) (hc4 : ¬cond0_4 (grid0.coords t)) :
    Σ' (L8 : List (View.Piece (Elt F) S1x1024x768 .f32)), { L9 : List (View.Piece (Elt F) S1x8x128 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xo9 ∗ Ring.inflight (flightW0_0 c fh0) (Ring.sl 2 t.val) (Ring.bk 16 t.val) ∗ Ring.kept (cellP0_0 c) (slotW0_0 c fh0) (landed0_0 c fh0) (Ring.sl 2 (t.val + 1)) (Ring.bk 16 (t.val - 1)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ Ring.inflight (flightW0_0 c fh0) (Ring.sl 2 (t.val + 1)) (Ring.bk 16 (t.val + 1)) ∗ Ring.kept (cellP0_0 c) (slotW0_0 c fh0) (landed0_0 c fh0) (Ring.sl 2 t.val) (Ring.bk 16 t.val) ∗ (∃ W', owes (c : Thread nD τ) 0 W')) -∗ K ⟨⟩))
          ⊢ wp frame (wpE (defs₀ (F := F)) Variants.none c none) Set.univ (cc0__friction_kernel (grid0.coords t) (Memref.whole main_arg0) (Memref.isWhole_whole _) arg3 harg3 arg4 harg4 arg5 harg5 arg6 harg6 arg7 harg7 arg8 harg8 arg9 harg9 arg10 harg10 arg11 harg11 arg12 harg12 scM0_0 (Memref.isWhole_whole _) cc0_scratch1) K } := by
  refine ⟨?_, ?_, fun W K => ?run⟩
  case run =>
    haveI : Fact (¬cond0_0 (grid0.coords t)) := ⟨hc0⟩
    haveI : Fact (cond0_1 (grid0.coords t)) := ⟨hc1⟩
    haveI : Fact (¬cond0_2 (grid0.coords t)) := ⟨hc2⟩
    haveI : Fact (cond0_3 (grid0.coords t)) := ⟨hc3⟩
    haveI : Fact (¬cond0_4 (grid0.coords t)) := ⟨hc4⟩
    simp only [cc0__friction_kernel_eq_skeleton]; unfold cc0__friction_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ff0, Hf0, Hrf0⟩, ⟨Hc1, ⟨%fs1, Hs1, Hw1⟩⟩, HW, Hk⟩
    ihave Hsp1 := (src0_0_split c fh0 (Ring.sl 2 (t.val + 1)) (Ring.bk 16 (t.val + 1))).1 $$ Hw1
    icases Hsp1 with ⟨Hh1, Hr1⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [Hc1 Hr1]
    · iexists _; isplitl [Hc1]; · iexact Hc1
      iexact Hr1
    isplitl [Hf0 Hf0_dst Hf0_src Hrf0]
    · isplitl [Hf0]; · iexact Hf0
      iexists _; isplitl [Hf0_dst]; · iexact Hf0_dst
      iapply (src0_0_split c fh0 (Ring.sl 2 t.val) (Ring.bk 16 t.val)).2; isplitl [Hf0_src]; · iexact Hf0_src
      iexact Hrf0
    iexists _; iexact HW

end Cert.KernelIdeal.Run

end
-- ==== Proof.KernelIdealRunC.lean ====
/- One run of the kernel body at the last block of a batch row, another row still to come. -/
module

public import proofs.«01_k».proof.Proof.KernelIdealRunB

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (t : Fin cfg0.N) (arg3 : Memref sig .tc .vmem S2x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S1x1 .f32) (harg6 : arg6.IsWhole) (arg7 : Memref sig .tc .vmem S768x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x1024x768 .f32) (harg11 : arg11.IsWhole) (arg12 : Memref sig .tc .vmem S1x8x128 .f32) (harg12 : arg12.IsWhole)
  (x0 : Vec F S2x384 .f32) (x1 : Vec F S1x384 .f32) (x2 : Vec F S1x384 .f32) (x3 : Vec F S1x1 .f32) (x4 : Vec F S768x768 .f32) (x5 : Vec F S1x768 .f32) (x6 : Vec F S1x768 .f32) (x7 : Vec F S1x768 .f32) (xo9 : Vec F S1x8x128 .f32) (fh0 : HbBuf0 (F := F) c hbM0_0)

set_option maxHeartbeats 1000000 in
/-- What the body stores into its two output blocks at the last block of a batch row, another row still to come, as lists of writes, together with the proof that it
    runs: from its inputs, its output blocks, the energy block at any contents and the ring's buffers before the point, to
    the same inputs, the outputs so written and the ring's buffers after the point. -/
def run_C (hc0 : ¬cond0_0 (grid0.coords t)) (hc1 : cond0_1 (grid0.coords t)) (hc2 : ¬cond0_2 (grid0.coords t)) (hc3 : ¬cond0_3 (grid0.coords t)) (hc4 : cond0_4 (grid0.coords t)) :
    Σ' (L8 : List (View.Piece (Elt F) S1x1024x768 .f32)), { L9 : List (View.Piece (Elt F) S1x8x128 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xo9 ∗ Ring.inflight (flightW0_0 c fh0) (Ring.sl 2 t.val) (Ring.bk 16 t.val) ∗ Ring.kept (cellP0_0 c) (slotW0_0 c fh0) (landed0_0 c fh0) (Ring.sl 2 (t.val + 1)) (Ring.bk 16 (t.val - 1)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ Ring.inflight (flightW0_0 c fh0) (Ring.sl 2 (t.val + 1)) (Ring.bk 16 (t.val + 1)) ∗ Ring.kept (cellP0_0 c) (slotW0_0 c fh0) (landed0_0 c fh0) (Ring.sl 2 t.val) (Ring.bk 16 t.val) ∗ (∃ W', owes (c : Thread nD τ) 0 W')) -∗ K ⟨⟩))
          ⊢ wp frame (wpE (defs₀ (F := F)) Variants.none c none) Set.univ (cc0__friction_kernel (grid0.coords t) (Memref.whole main_arg0) (Memref.isWhole_whole _) arg3 harg3 arg4 harg4 arg5 harg5 arg6 harg6 arg7 harg7 arg8 harg8 arg9 harg9 arg10 harg10 arg11 harg11 arg12 harg12 scM0_0 (Memref.isWhole_whole _) cc0_scratch1) K } := by
  refine ⟨?_, ?_, fun W K => ?run⟩
  case run =>
    haveI : Fact (¬cond0_0 (grid0.coords t)) := ⟨hc0⟩
    haveI : Fact (cond0_1 (grid0.coords t)) := ⟨hc1⟩
    haveI : Fact (¬cond0_2 (grid0.coords t)) := ⟨hc2⟩
    haveI : Fact (¬cond0_3 (grid0.coords t)) := ⟨hc3⟩
    haveI : Fact (cond0_4 (grid0.coords t)) := ⟨hc4⟩
    simp only [cc0__friction_kernel_eq_skeleton]; unfold cc0__friction_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ff0, Hf0, Hrf0⟩, ⟨Hc1, ⟨%fs1, Hs1, Hw1⟩⟩, HW, Hk⟩
    ihave Hsp1 := (src0_0_split c fh0 (Ring.sl 2 (t.val + 1)) (Ring.bk 16 (t.val + 1))).1 $$ Hw1
    icases Hsp1 with ⟨Hh1, Hr1⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [Hc1 Hr1]
    · iexists _; isplitl [Hc1]; · iexact Hc1
      iexact Hr1
    isplitl [Hf0 Hf0_dst Hf0_src Hrf0]
    · isplitl [Hf0]; · iexact Hf0
      iexists _; isplitl [Hf0_dst]; · iexact Hf0_dst
      iapply (src0_0_split c fh0 (Ring.sl 2 t.val) (Ring.bk 16 t.val)).2; isplitl [Hf0_src]; · iexact Hf0_src
      iexact Hrf0
    iexists _; iexact HW

end Cert.KernelIdeal.Run

end
-- ==== Proof.KernelIdealRunD.lean ====
/- One run of the kernel body at the first block of a later batch row. -/
module

public import proofs.«01_k».proof.Proof.KernelIdealRunC

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (t : Fin cfg0.N) (arg3 : Memref sig .tc .vmem S2x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S1x1 .f32) (harg6 : arg6.IsWhole) (arg7 : Memref sig .tc .vmem S768x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x1024x768 .f32) (harg11 : arg11.IsWhole) (arg12 : Memref sig .tc .vmem S1x8x128 .f32) (harg12 : arg12.IsWhole)
  (x0 : Vec F S2x384 .f32) (x1 : Vec F S1x384 .f32) (x2 : Vec F S1x384 .f32) (x3 : Vec F S1x1 .f32) (x4 : Vec F S768x768 .f32) (x5 : Vec F S1x768 .f32) (x6 : Vec F S1x768 .f32) (x7 : Vec F S1x768 .f32) (xo9 : Vec F S1x8x128 .f32) (fh0 : HbBuf0 (F := F) c hbM0_0)

set_option maxHeartbeats 1000000 in
/-- What the body stores into its two output blocks at the first block of a later batch row, as lists of writes, together with the proof that it
    runs: from its inputs, its output blocks, the energy block at any contents and the ring's buffers before the point, to
    the same inputs, the outputs so written and the ring's buffers after the point. -/
def run_D (hc0 : ¬cond0_0 (grid0.coords t)) (hc1 : cond0_1 (grid0.coords t)) (hc2 : cond0_2 (grid0.coords t)) (hc3 : ¬cond0_3 (grid0.coords t)) (hc4 : ¬cond0_4 (grid0.coords t)) :
    Σ' (L8 : List (View.Piece (Elt F) S1x1024x768 .f32)), { L9 : List (View.Piece (Elt F) S1x8x128 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xo9 ∗ Ring.inflight (flightW0_0 c fh0) (Ring.sl 2 t.val) (Ring.bk 16 t.val) ∗ Ring.kept (cellP0_0 c) (slotW0_0 c fh0) (landed0_0 c fh0) (Ring.sl 2 (t.val + 1)) (Ring.bk 16 (t.val - 1)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ Ring.inflight (flightW0_0 c fh0) (Ring.sl 2 (t.val + 1)) (Ring.bk 16 (t.val + 1)) ∗ Ring.kept (cellP0_0 c) (slotW0_0 c fh0) (landed0_0 c fh0) (Ring.sl 2 t.val) (Ring.bk 16 t.val) ∗ (∃ W', owes (c : Thread nD τ) 0 W')) -∗ K ⟨⟩))
          ⊢ wp frame (wpE (defs₀ (F := F)) Variants.none c none) Set.univ (cc0__friction_kernel (grid0.coords t) (Memref.whole main_arg0) (Memref.isWhole_whole _) arg3 harg3 arg4 harg4 arg5 harg5 arg6 harg6 arg7 harg7 arg8 harg8 arg9 harg9 arg10 harg10 arg11 harg11 arg12 harg12 scM0_0 (Memref.isWhole_whole _) cc0_scratch1) K } := by
  refine ⟨?_, ?_, fun W K => ?run⟩
  case run =>
    haveI : Fact (¬cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    haveI : Fact (¬cond0_4 (grid0.coords t)) := ⟨hc4⟩
    simp only [cc0__friction_kernel_eq_skeleton]; unfold cc0__friction_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ff0, Hf0, Hrf0⟩, ⟨Hc1, ⟨%fs1, Hs1, Hw1⟩⟩, HW, Hk⟩
    ihave Hsp1 := (src0_0_split c fh0 (Ring.sl 2 (t.val + 1)) (Ring.bk 16 (t.val + 1))).1 $$ Hw1
    icases Hsp1 with ⟨Hh1, Hr1⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [Hc1 Hr1]
    · iexists _; isplitl [Hc1]; · iexact Hc1
      iexact Hr1
    isplitl [Hf0 Hf0_dst Hf0_src Hrf0]
    · isplitl [Hf0]; · iexact Hf0
      iexists _; isplitl [Hf0_dst]; · iexact Hf0_dst
      iapply (src0_0_split c fh0 (Ring.sl 2 t.val) (Ring.bk 16 t.val)).2; isplitl [Hf0_src]; · iexact Hf0_src
      iexact Hrf0
    iexists _; iexact HW

end Cert.KernelIdeal.Run

end
-- ==== Proof.KernelIdealRunE.lean ====
/- One run of the kernel body at the very last point. -/
module

public import proofs.«01_k».proof.Proof.KernelIdealRunD

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (t : Fin cfg0.N) (arg3 : Memref sig .tc .vmem S2x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S1x1 .f32) (harg6 : arg6.IsWhole) (arg7 : Memref sig .tc .vmem S768x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x1024x768 .f32) (harg11 : arg11.IsWhole) (arg12 : Memref sig .tc .vmem S1x8x128 .f32) (harg12 : arg12.IsWhole)
  (x0 : Vec F S2x384 .f32) (x1 : Vec F S1x384 .f32) (x2 : Vec F S1x384 .f32) (x3 : Vec F S1x1 .f32) (x4 : Vec F S768x768 .f32) (x5 : Vec F S1x768 .f32) (x6 : Vec F S1x768 .f32) (x7 : Vec F S1x768 .f32) (xo9 : Vec F S1x8x128 .f32) (fh0 : HbBuf0 (F := F) c hbM0_0)

set_option maxHeartbeats 1000000 in
/-- What the body stores into its two output blocks at the very last point, as lists of writes, together with the proof that it
    runs: from its inputs, its output blocks, the energy block at any contents and the ring's buffers before the point, to
    the same inputs, the outputs so written and the ring's buffers after the point. -/
def run_E (hc0 : ¬cond0_0 (grid0.coords t)) (hc1 : ¬cond0_1 (grid0.coords t)) (hc2 : ¬cond0_2 (grid0.coords t)) (hc3 : ¬cond0_3 (grid0.coords t)) (hc4 : cond0_4 (grid0.coords t)) :
    Σ' (L8 : List (View.Piece (Elt F) S1x1024x768 .f32)), { L9 : List (View.Piece (Elt F) S1x8x128 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xo9 ∗ Ring.inflight (flightW0_0 c fh0) (Ring.sl 2 t.val) (Ring.bk 16 t.val) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ Ring.kept (cellP0_0 c) (slotW0_0 c fh0) (landed0_0 c fh0) (Ring.sl 2 t.val) (Ring.bk 16 t.val) ∗ (∃ W', owes (c : Thread nD τ) 0 W')) -∗ K ⟨⟩))
          ⊢ wp frame (wpE (defs₀ (F := F)) Variants.none c none) Set.univ (cc0__friction_kernel (grid0.coords t) (Memref.whole main_arg0) (Memref.isWhole_whole _) arg3 harg3 arg4 harg4 arg5 harg5 arg6 harg6 arg7 harg7 arg8 harg8 arg9 harg9 arg10 harg10 arg11 harg11 arg12 harg12 scM0_0 (Memref.isWhole_whole _) cc0_scratch1) K } := by
  refine ⟨?_, ?_, fun W K => ?run⟩
  case run =>
    haveI : Fact (¬cond0_0 (grid0.coords t)) := ⟨hc0⟩
    haveI : Fact (¬cond0_1 (grid0.coords t)) := ⟨hc1⟩
    haveI : Fact (¬cond0_2 (grid0.coords t)) := ⟨hc2⟩
    haveI : Fact (¬cond0_3 (grid0.coords t)) := ⟨hc3⟩
    haveI : Fact (cond0_4 (grid0.coords t)) := ⟨hc4⟩
    simp only [cc0__friction_kernel_eq_skeleton]; unfold cc0__friction_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ff0, Hf0, Hrf0⟩, HW, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [Hf0 Hf0_dst Hf0_src Hrf0]
    · isplitl [Hf0]; · iexact Hf0
      iexists _; isplitl [Hf0_dst]; · iexact Hf0_dst
      iapply (src0_0_split c fh0 (Ring.sl 2 t.val) (Ring.bk 16 t.val)).2; isplitl [Hf0_src]; · iexact Hf0_src
      iexact Hrf0
    iexists _; iexact HW

end Cert.KernelIdeal.Run

end
-- ==== Proof.KernelIdealBody.lean ====
/- What one grid point of the kernel computes, as plain functions of the values it loads, and the two outputs point by point. -/
module

public import proofs.«01_k».proof.Proof.KernelIdealRing
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F]

/-! ## The values of one grid point

`v` is the window of hidden states, `s` the first row of the window as the body computes it, `u`, `w`, `b1`, `w2`, `b2` the
edge network's two input rows, its bias, its output row and its output bias, `wq`, `bq` the external field's matrix and
bias, `ga`, `be` the scale and shift of the normalisation. -/

section Point
variable (v : Vec F S1x1056x768 .f32) (s : BitVec 32) (u w b1 w2 : Vec F S1x384 .f32) (b2 : Vec F S1x1 .f32)
  (wq : Vec F S768x768 .f32) (bq ga be : Vec F S1x768 .f32) (i : BitVec 32) (prev : Vec F S1x1x1 .f32)

/-- The external field scaled by the step size. -/
def field : Vec F S1056x768 .f32 := k0_pay7 (k0_pay6 v wq bq) (FloatOps.ofBits .f32 0x3DCCCCCD#32)
/-- The weight of the edge to the next row, -/
def wA : Vec F S1056x1 .f32 := k0_pay12 (k0_pay8 s) (k0_pay11 (k0_pay5 v) u w b1) (FloatOps.ofBits .f32 0x3F000000#32) w2 b2
/-- the edge network's output for the edge to the row after the next, -/
def zB : Vec F S1056x1 .f32 := k0_pay15 (k0_pay10 (k0_pay5 v)) (k0_pay13 (k0_pay5 v)) (k0_pay14 (k0_pay9 (k0_pay5 v))) u w b1 w2 b2
/-- its absolute value, -/
def zBabs : Vec F S1056x1 .f32 := k0_pay16 (k0_pay10 (k0_pay5 v)) (k0_pay13 (k0_pay5 v)) (k0_pay14 (k0_pay9 (k0_pay5 v))) u w b1 w2 b2
/-- and that edge's weight. -/
def wB : Vec F S1056x1 .f32 := k0_pay17 (k0_pay8 s) (zB v u w b1 w2 b2) (zBabs v u w b1 w2 b2)
/-- The coefficient of the edge to the next row, -/
def cA : Vec F S1056x1 .f32 := k0_pay19 (k0_pay8 s) (wA v s u w b1 w2 b2) (zB v u w b1 w2 b2) (zBabs v u w b1 w2 b2)
/-- of the edge to the row after the next, -/
def cB : Vec F S1056x1 .f32 := k0_pay20 (k0_pay8 s) (wA v s u w b1 w2 b2) (zB v u w b1 w2 b2) (zBabs v u w b1 w2 b2)
/-- of the edge from the row before, -/
def cA' : Vec F S1056x1 .f32 := k0_pay21 (k0_pay8 s) (wA v s u w b1 w2 b2) (zB v u w b1 w2 b2) (zBabs v u w b1 w2 b2)
/-- of the edge from two rows before, -/
def cB' : Vec F S1056x1 .f32 := k0_pay23 (cB v s u w b1 w2 b2) k0_pay22
/-- and of the row itself. -/
def cO : Vec F S1056x1 .f32 := k0_pay24 (cA v s u w b1 w2 b2) (cB v s u w b1 w2 b2) (cA' v s u w b1 w2 b2) k0_pay22
/-- The state after one step, -/
def st1 : Vec F S1056x768 .f32 := k0_pay25 (k0_pay5 v) (field v wq bq) (cA v s u w b1 w2 b2) (cB v s u w b1 w2 b2) (cA' v s u w b1 w2 b2) k0_pay22
/-- the second step's sum before its last two terms, -/
def st2p : Vec F S1056x768 .f32 := k0_pay26 (k0_pay5 v) (field v wq bq) (cA v s u w b1 w2 b2) (cB v s u w b1 w2 b2) (cA' v s u w b1 w2 b2) k0_pay22
/-- the first state moved up by two rows, -/
def st1u : Vec F S1056x768 .f32 := k0_pay27 (k0_pay5 v) (field v wq bq) (cA v s u w b1 w2 b2) (cB v s u w b1 w2 b2) (cA' v s u w b1 w2 b2) k0_pay22
/-- the state after the third step, -/
def st3 : Vec F S1056x768 .f32 := k0_pay28 (field v wq bq) (cA v s u w b1 w2 b2) (cB v s u w b1 w2 b2) (cA' v s u w b1 w2 b2) (cB' v s u w b1 w2 b2) (cO v s u w b1 w2 b2) (st1 v s u w b1 w2 b2 wq bq) (st2p v s u w b1 w2 b2 wq bq) (st1u v s u w b1 w2 b2 wq bq)
/-- its squared difference along the edges to the next row, -/
def enA : Vec F S1056x1 .f32 := k0_pay29 (field v wq bq) (cA v s u w b1 w2 b2) (cB v s u w b1 w2 b2) (cA' v s u w b1 w2 b2) (cB' v s u w b1 w2 b2) (cO v s u w b1 w2 b2) (st1 v s u w b1 w2 b2 wq bq) (st2p v s u w b1 w2 b2 wq bq) (st1u v s u w b1 w2 b2 wq bq)
/-- and along the edges to the row after the next. -/
def enB : Vec F S1056x1 .f32 := k0_pay30 (field v wq bq) (cA v s u w b1 w2 b2) (cB v s u w b1 w2 b2) (cA' v s u w b1 w2 b2) (cB' v s u w b1 w2 b2) (cO v s u w b1 w2 b2) (st1 v s u w b1 w2 b2 wq bq) (st2p v s u w b1 w2 b2 wq bq) (st1u v s u w b1 w2 b2 wq bq)
/-- The energy block after the point, from the block `prev` before it. -/
def engOf : Vec F S1x8x128 .f32 := k0_pay31 i (k0_pay8 s) (wA v s u w b1 w2 b2) (wB v s u w b1 w2 b2) (enA v s u w b1 w2 b2 wq bq) (enB v s u w b1 w2 b2 wq bq) 1024#32 prev
/-- The output block where the block's own rows start the window, -/
def out0 : Vec F S1x1024x768 .f32 := k0_pay2 (k0_pay32 (k0_pay5 v) (st3 v s u w b1 w2 b2 wq bq)) (k0_pay33 (k0_pay5 v) (st3 v s u w b1 w2 b2 wq bq)) ga be
/-- where they start sixteen rows in, -/
def out16 : Vec F S1x1024x768 .f32 := k0_pay3 (k0_pay32 (k0_pay5 v) (st3 v s u w b1 w2 b2 wq bq)) (k0_pay33 (k0_pay5 v) (st3 v s u w b1 w2 b2 wq bq)) ga be
/-- and where they start thirty-two rows in. -/
def out32 : Vec F S1x1024x768 .f32 := k0_pay4 (k0_pay32 (k0_pay5 v) (st3 v s u w b1 w2 b2 wq bq)) (k0_pay33 (k0_pay5 v) (st3 v s u w b1 w2 b2 wq bq)) ga be

/-- At the first block of a row the energy block does not depend on what it held before. -/
theorem engOf_first (prev prev' : Vec F S1x1x1 .f32) : engOf v s u w b1 w2 b2 wq bq 0#32 prev = engOf v s u w b1 w2 b2 wq bq 0#32 prev' := rfl

end Point

/-! ## The two outputs at a grid point, from the arrays -/

/-- The window of the hidden states that grid point `t` works on. -/
def win (h : Vec F S2x8192x768 .f32) (t : Fin 16) : Vec F S1x1056x768 .f32 := fun j =>
  h ((Rect.unit (s := S2x8192x768) ![(t.val / 8), winStart t.val, 0] S1x1056x768.size (inb_src0_0 t)).emb j)
/-- Row 0 of the edge network's input matrix, -/
def rowU (x : Vec F S2x384 .f32) : Vec F S1x384 .f32 := fun j =>
  x ((Rect.unit (s := S2x384) ![0, 0] S1x384.size inb_S2x384_S1x384_0_0).emb j)
/-- and row 1. -/
def rowW (x : Vec F S2x384 .f32) : Vec F S1x384 .f32 := fun j =>
  x ((Rect.unit (s := S2x384) ![1, 0] S1x384.size inb_S2x384_S1x384_1_0).emb j)
/-- The first entry of the energy block. -/
def head (x : Vec F S1x8x128 .f32) : Vec F S1x1x1 .f32 := fun j =>
  x ((Rect.unit (s := S1x8x128) ![0, 0, 0] S1x1x1.size inb_S1x8x128_S1x1x1_0_0_0).emb j)

section Step
variable (h : Vec F S2x8192x768 .f32) (x0 : Vec F S2x384 .f32) (x1 x2 : Vec F S1x384 .f32) (x3 : Vec F S1x1 .f32)
  (x4 : Vec F S768x768 .f32) (x5 x6 x7 : Vec F S1x768 .f32)

/-- The first row of the window of grid point `t`, as a word. -/
def startW (t : ℕ) : BitVec 32 := BitVec.ofNat 32 (winStart t)

/-- The output block of grid point `t`. -/
def outStep (t : Fin 16) : Vec F S1x1024x768 .f32 :=
  if t.val % 8 = 0 then out0 (win h t) (startW t.val) (rowU x0) (rowW x0) x1 x2 x3 x4 x5 x6 x7
  else if t.val % 8 = 7 then out32 (win h t) (startW t.val) (rowU x0) (rowW x0) x1 x2 x3 x4 x5 x6 x7
  else out16 (win h t) (startW t.val) (rowU x0) (rowW x0) x1 x2 x3 x4 x5 x6 x7

/-- The energy block that grid point `t` leaves where it found `y`. -/
def engStep (t : Fin 16) (y : Vec F S1x8x128 .f32) : Vec F S1x8x128 .f32 :=
  engOf (win h t) (startW t.val) (rowU x0) (rowW x0) x1 x2 x3 x4 x5 (BitVec.ofNat 32 (t.val % 8)) (head y)

/-- At the first block of a row the energy block does not depend on what it held before. -/
theorem engStep_first (t : Fin 16) (ht : t.val % 8 = 0) (y y' : Vec F S1x8x128 .f32) :
    engStep h x0 x1 x2 x3 x4 x5 t y = engStep h x0 x1 x2 x3 x4 x5 t y' := by
  unfold engStep; rw [ht]; exact engOf_first ..

end Step

/-! ## Loads read back -/

/-- A load of a whole two-axis buffer reads its contents. -/
theorem load_all {n0 n1 : ℕ} {m : Memref sig .tc .vmem ⟨2, ![n0, n1]⟩ .f32} (hm : m.IsWhole) (X : Vec F ⟨2, ![n0, n1]⟩ .f32)
    (inb : ∀ a, (![0, 0] : Fin 2 → ℕ) a + (⟨2, ![n0, n1]⟩ : Shape).size a ≤ (⟨2, ![n0, n1]⟩ : Shape).size a) :
    View.readAt (Elt F) m.view (Rect.unit (s := ⟨2, ![n0, n1]⟩) ![0, 0] (⟨2, ![n0, n1]⟩ : Shape).size inb).toLoadRect (hm.unread X) = X := by
  funext x
  refine (hm.readAt_unread X _ x).trans (congrArg X ?_)
  funext a; apply Fin.ext
  fin_cases a <;> simp [LoadRect.idx, Rect.toLoadRect, Rect.unit]
/-- A load of row 0 of the edge network's input matrix, -/
theorem load_rowU {m : Memref sig .tc .vmem S2x384 .f32} (hm : m.IsWhole) (X : Vec F S2x384 .f32) :
    View.readAt (Elt F) m.view (Rect.unit (s := S2x384) ![0, 0] S1x384.size inb_S2x384_S1x384_0_0).toLoadRect (hm.unread X) = rowU X :=
  funext fun x => hm.readAt_unread X _ x
/-- of row 1, -/
theorem load_rowW {m : Memref sig .tc .vmem S2x384 .f32} (hm : m.IsWhole) (X : Vec F S2x384 .f32) :
    View.readAt (Elt F) m.view (Rect.unit (s := S2x384) ![1, 0] S1x384.size inb_S2x384_S1x384_1_0).toLoadRect (hm.unread X) = rowW X :=
  funext fun x => hm.readAt_unread X _ x
/-- and of the energy block's first entry. -/
theorem load_head {m : Memref sig .tc .vmem S1x8x128 .f32} (hm : m.IsWhole) (X : Vec F S1x8x128 .f32) :
    View.readAt (Elt F) m.view (Rect.unit (s := S1x8x128) ![0, 0, 0] S1x1x1.size inb_S1x8x128_S1x1x1_0_0_0).toLoadRect (hm.unread X) = head X :=
  funext fun x => hm.readAt_unread X _ x

/-- The word the body computes for its window's first row is `startW`, -/
theorem start_word : ∀ t : Fin cfg0.N, Scalar.minsi 7136#32 (Scalar.maxsi 0#32 (Scalar.subi (Scalar.muli (BitVec.ofNat 32 (grid0.coords t 1)) 1024#32) 16#32)) = startW t.val := by
  decide +kernel
/-- and its block number within the row is the point's remainder by eight. -/
theorem block_word : ∀ t : Fin cfg0.N, BitVec.ofNat 32 (grid0.coords t 1) = BitVec.ofNat 32 (t.val % 8) := by
  decide +kernel

/-- A slot of the window buffer read as a block is the slot's own view recast. -/
theorem load_slot (sl : Fin 2) (g : scM0_0.view.ty.Contents (Elt F)) (x : Vec F S1056x768 .f32)
    (h : (rslot0_0 sl).view.read (Elt F) g = x) (hc : S1x1056x768.ShapeCasts S1056x768) (hc' : S1056x768.ShapeCasts S1x1056x768) :
    View.readAt (Elt F) scM0_0.view (Rect.unit (s := S2x1056x768) ![sl.val, 0, 0] S1x1056x768.size (inb_slot0_0 sl)).toLoadRect g
      = shapeCast S1x1056x768 x hc' := by
  rw [← h]
  exact (shapeCast_shapeCast (View.readAt (Elt F) scM0_0.view (Rect.unit (s := S2x1056x768) ![sl.val, 0, 0] S1x1056x768.size (inb_slot0_0 sl)).toLoadRect g) hc hc').symm

/-- What the body loads from the landed slot is its window of the hidden states. -/
theorem load_win (c : Dev nD) (t : Fin cfg0.N) (t' : Fin 16) (ht : t'.val = t.val) (h : HbBuf0 (F := F) c hbM0_0) :
    View.readAt (Elt F) scM0_0.view (Rect.unit (s := S2x1056x768) (k0_off8 (grid0.coords t)) S1x1056x768.size (k0_off8_inb (grid0.coords t))).toLoadRect
      ((rslot0_0 (Ring.sl 2 t.val)).view.writes (Elt F) (rslot0_0 (Ring.sl 2 t.val)).view.junk
        [⟨Rect.whole S1056x768, ReadAs.same.apply (View.read (Elt F) (srcB0_0 (Ring.bk 16 t.val)).view h)⟩])
      = win h t' := by
  obtain rfl : Ring.bk 16 t.val = t' := Fin.ext (by rw [ht.symm]; exact Nat.mod_eq_of_lt t'.isLt)
  have hc : S1x1056x768.ShapeCasts S1056x768 := by decide
  have hc' : S1056x768.ShapeCasts S1x1056x768 := by decide
  refine Eq.trans (View.readAt_unit_congr_cast scM0_0.view (off' := ![(Ring.sl 2 t.val).val, 0, 0]) (coff0_0_9 t) S1x1056x768.size (k0_off8_inb (grid0.coords t)) _) ?_
  refine (load_slot (Ring.sl 2 t.val) _ _ (View.read_writes_whole _ _ _) hc hc').trans ?_
  refine (congrArg (fun x => shapeCast S1x1056x768 x hc') (Memref.read_squeeze_slice hbM0_0 _ (fun _ => rfl) squeezes_S1x1056x768_S1056x768 hc h)).trans ?_
  refine (shapeCast_shapeCast _ _ _).trans ?_
  funext j
  rfl

end Cert.KernelIdeal.Run
-- ==== Proof.KernelIdealVals.lean ====
/- What each run of the kernel body leaves in the two output blocks. -/
module

public import proofs.«01_k».proof.Proof.KernelIdealRunE
public import proofs.«01_k».proof.Proof.KernelIdealBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F]

variable (c : Dev nD) (t : Fin cfg0.N) (arg3 : Memref sig .tc .vmem S2x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S1x1 .f32) (harg6 : arg6.IsWhole) (arg7 : Memref sig .tc .vmem S768x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x1024x768 .f32) (harg11 : arg11.IsWhole) (arg12 : Memref sig .tc .vmem S1x8x128 .f32) (harg12 : arg12.IsWhole)
  (x0 : Vec F S2x384 .f32) (x1 : Vec F S1x384 .f32) (x2 : Vec F S1x384 .f32) (x3 : Vec F S1x1 .f32) (x4 : Vec F S768x768 .f32) (x5 : Vec F S1x768 .f32) (x6 : Vec F S1x768 .f32) (x7 : Vec F S1x768 .f32) (xo9 : Vec F S1x8x128 .f32) (fh0 : HbBuf0 (F := F) c hbM0_0)

/-- At the very first point the output block is the point's normalised rows, -/
theorem run_A_out (t' : Fin 16) (ht : t'.val = t.val) (hc0 : cond0_0 (grid0.coords t)) (hc1 : cond0_1 (grid0.coords t)) (hc2 : cond0_2 (grid0.coords t)) (hc3 : ¬cond0_3 (grid0.coords t)) (hc4 : ¬cond0_4 (grid0.coords t)) :
    (run_A c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).1
      = [⟨Rect.unit (s := S1x1024x768) ![0, 0, 0] S1x1024x768.size inb_S1x1024x768_S1x1024x768_0_0_0,
          out0 (win fh0 t') (startW t.val) (rowU x0) (rowW x0) x1 x2 x3 x4 x5 x6 x7⟩] := by
  have e : (run_A c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).1
      = [⟨Rect.unit (s := S1x1024x768) ![0, 0, 0] S1x1024x768.size inb_S1x1024x768_S1x1024x768_0_0_0,
          out0 (View.readAt (Elt F) scM0_0.view (Rect.unit (s := S2x1056x768) (k0_off8 (grid0.coords t)) S1x1056x768.size (k0_off8_inb (grid0.coords t))).toLoadRect
      ((rslot0_0 (Ring.sl 2 t.val)).view.writes (Elt F) (rslot0_0 (Ring.sl 2 t.val)).view.junk
        [⟨Rect.whole S1056x768, ReadAs.same.apply (View.read (Elt F) (srcB0_0 (Ring.bk 16 t.val)).view fh0)⟩])) (Scalar.minsi 7136#32 (Scalar.maxsi 0#32 (Scalar.subi (Scalar.muli (BitVec.ofNat 32 (grid0.coords t 1)) 1024#32) 16#32))) (View.readAt (Elt F) arg3.view (Rect.unit (s := S2x384) ![0, 0] S1x384.size inb_S2x384_S1x384_0_0).toLoadRect (harg3.unread x0)) (View.readAt (Elt F) arg3.view (Rect.unit (s := S2x384) ![1, 0] S1x384.size inb_S2x384_S1x384_1_0).toLoadRect (harg3.unread x0)) (View.readAt (Elt F) arg4.view (Rect.unit (s := S1x384) ![0, 0] S1x384.size inb_S1x384_S1x384_0_0).toLoadRect (harg4.unread x1)) (View.readAt (Elt F) arg5.view (Rect.unit (s := S1x384) ![0, 0] S1x384.size inb_S1x384_S1x384_0_0).toLoadRect (harg5.unread x2)) (View.readAt (Elt F) arg6.view (Rect.unit (s := S1x1) ![0, 0] S1x1.size inb_S1x1_S1x1_0_0).toLoadRect (harg6.unread x3)) (View.readAt (Elt F) arg7.view (Rect.unit (s := S768x768) ![0, 0] S768x768.size inb_S768x768_S768x768_0_0).toLoadRect (harg7.unread x4)) (View.readAt (Elt F) arg8.view (Rect.unit (s := S1x768) ![0, 0] S1x768.size inb_S1x768_S1x768_0_0).toLoadRect (harg8.unread x5)) (View.readAt (Elt F) arg9.view (Rect.unit (s := S1x768) ![0, 0] S1x768.size inb_S1x768_S1x768_0_0).toLoadRect (harg9.unread x6)) (View.readAt (Elt F) arg10.view (Rect.unit (s := S1x768) ![0, 0] S1x768.size inb_S1x768_S1x768_0_0).toLoadRect (harg10.unread x7))⟩] := rfl
  rw [e, load_win c t t' ht fh0, start_word, load_rowU, load_rowW, load_all harg4, load_all harg5, load_all harg6, load_all harg7, load_all harg8, load_all harg9, load_all harg10]

/-- and the energy block is the point's energy added to the block before. -/
theorem run_A_eng (t' : Fin 16) (ht : t'.val = t.val) (hc0 : cond0_0 (grid0.coords t)) (hc1 : cond0_1 (grid0.coords t)) (hc2 : cond0_2 (grid0.coords t)) (hc3 : ¬cond0_3 (grid0.coords t)) (hc4 : ¬cond0_4 (grid0.coords t)) :
    (run_A c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).2.1
      = [⟨Rect.unit (s := S1x8x128) ![0, 0, 0] S1x8x128.size inb_S1x8x128_S1x8x128_0_0_0,
          engOf (win fh0 t') (startW t.val) (rowU x0) (rowW x0) x1 x2 x3 x4 x5 (BitVec.ofNat 32 (t.val % 8)) (head xo9)⟩] := by
  have e : (run_A c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).2.1
      = [⟨Rect.unit (s := S1x8x128) ![0, 0, 0] S1x8x128.size inb_S1x8x128_S1x8x128_0_0_0,
          engOf (View.readAt (Elt F) scM0_0.view (Rect.unit (s := S2x1056x768) (k0_off8 (grid0.coords t)) S1x1056x768.size (k0_off8_inb (grid0.coords t))).toLoadRect
      ((rslot0_0 (Ring.sl 2 t.val)).view.writes (Elt F) (rslot0_0 (Ring.sl 2 t.val)).view.junk
        [⟨Rect.whole S1056x768, ReadAs.same.apply (View.read (Elt F) (srcB0_0 (Ring.bk 16 t.val)).view fh0)⟩])) (Scalar.minsi 7136#32 (Scalar.maxsi 0#32 (Scalar.subi (Scalar.muli (BitVec.ofNat 32 (grid0.coords t 1)) 1024#32) 16#32))) (View.readAt (Elt F) arg3.view (Rect.unit (s := S2x384) ![0, 0] S1x384.size inb_S2x384_S1x384_0_0).toLoadRect (harg3.unread x0)) (View.readAt (Elt F) arg3.view (Rect.unit (s := S2x384) ![1, 0] S1x384.size inb_S2x384_S1x384_1_0).toLoadRect (harg3.unread x0)) (View.readAt (Elt F) arg4.view (Rect.unit (s := S1x384) ![0, 0] S1x384.size inb_S1x384_S1x384_0_0).toLoadRect (harg4.unread x1)) (View.readAt (Elt F) arg5.view (Rect.unit (s := S1x384) ![0, 0] S1x384.size inb_S1x384_S1x384_0_0).toLoadRect (harg5.unread x2)) (View.readAt (Elt F) arg6.view (Rect.unit (s := S1x1) ![0, 0] S1x1.size inb_S1x1_S1x1_0_0).toLoadRect (harg6.unread x3)) (View.readAt (Elt F) arg7.view (Rect.unit (s := S768x768) ![0, 0] S768x768.size inb_S768x768_S768x768_0_0).toLoadRect (harg7.unread x4)) (View.readAt (Elt F) arg8.view (Rect.unit (s := S1x768) ![0, 0] S1x768.size inb_S1x768_S1x768_0_0).toLoadRect (harg8.unread x5)) (BitVec.ofNat 32 (grid0.coords t 1)) (View.readAt (Elt F) arg12.view (Rect.unit (s := S1x8x128) ![0, 0, 0] S1x1x1.size inb_S1x8x128_S1x1x1_0_0_0).toLoadRect (harg12.unread xo9))⟩] := rfl
  rw [e, load_win c t t' ht fh0, start_word, load_rowU, load_rowW, load_all harg4, load_all harg5, load_all harg6, load_all harg7, load_all harg8, load_head harg12, block_word]

/-- At a block inside a batch row the output block is the point's normalised rows, -/
theorem run_B_out (t' : Fin 16) (ht : t'.val = t.val) (hc0 : ¬cond0_0 (grid0.coords t)) (hc1 : cond0_1 (grid0.coords t)) (hc2 : ¬cond0_2 (grid0.coords t)) (hc3 : cond0_3 (grid0.coords t)) (hc4 : ¬cond0_4 (grid0.coords t)) :
    (run_B c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).1
      = [⟨Rect.unit (s := S1x1024x768) ![0, 0, 0] S1x1024x768.size inb_S1x1024x768_S1x1024x768_0_0_0,
          out16 (win fh0 t') (startW t.val) (rowU x0) (rowW x0) x1 x2 x3 x4 x5 x6 x7⟩] := by
  have e : (run_B c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).1
      = [⟨Rect.unit (s := S1x1024x768) ![0, 0, 0] S1x1024x768.size inb_S1x1024x768_S1x1024x768_0_0_0,
          out16 (View.readAt (Elt F) scM0_0.view (Rect.unit (s := S2x1056x768) (k0_off8 (grid0.coords t)) S1x1056x768.size (k0_off8_inb (grid0.coords t))).toLoadRect
      ((rslot0_0 (Ring.sl 2 t.val)).view.writes (Elt F) (rslot0_0 (Ring.sl 2 t.val)).view.junk
        [⟨Rect.whole S1056x768, ReadAs.same.apply (View.read (Elt F) (srcB0_0 (Ring.bk 16 t.val)).view fh0)⟩])) (Scalar.minsi 7136#32 (Scalar.maxsi 0#32 (Scalar.subi (Scalar.muli (BitVec.ofNat 32 (grid0.coords t 1)) 1024#32) 16#32))) (View.readAt (Elt F) arg3.view (Rect.unit (s := S2x384) ![0, 0] S1x384.size inb_S2x384_S1x384_0_0).toLoadRect (harg3.unread x0)) (View.readAt (Elt F) arg3.view (Rect.unit (s := S2x384) ![1, 0] S1x384.size inb_S2x384_S1x384_1_0).toLoadRect (harg3.unread x0)) (View.readAt (Elt F) arg4.view (Rect.unit (s := S1x384) ![0, 0] S1x384.size inb_S1x384_S1x384_0_0).toLoadRect (harg4.unread x1)) (View.readAt (Elt F) arg5.view (Rect.unit (s := S1x384) ![0, 0] S1x384.size inb_S1x384_S1x384_0_0).toLoadRect (harg5.unread x2)) (View.readAt (Elt F) arg6.view (Rect.unit (s := S1x1) ![0, 0] S1x1.size inb_S1x1_S1x1_0_0).toLoadRect (harg6.unread x3)) (View.readAt (Elt F) arg7.view (Rect.unit (s := S768x768) ![0, 0] S768x768.size inb_S768x768_S768x768_0_0).toLoadRect (harg7.unread x4)) (View.readAt (Elt F) arg8.view (Rect.unit (s := S1x768) ![0, 0] S1x768.size inb_S1x768_S1x768_0_0).toLoadRect (harg8.unread x5)) (View.readAt (Elt F) arg9.view (Rect.unit (s := S1x768) ![0, 0] S1x768.size inb_S1x768_S1x768_0_0).toLoadRect (harg9.unread x6)) (View.readAt (Elt F) arg10.view (Rect.unit (s := S1x768) ![0, 0] S1x768.size inb_S1x768_S1x768_0_0).toLoadRect (harg10.unread x7))⟩] := rfl
  rw [e, load_win c t t' ht fh0, start_word, load_rowU, load_rowW, load_all harg4, load_all harg5, load_all harg6, load_all harg7, load_all harg8, load_all harg9, load_all harg10]

/-- and the energy block is the point's energy added to the block before. -/
theorem run_B_eng (t' : Fin 16) (ht : t'.val = t.val) (hc0 : ¬cond0_0 (grid0.coords t)) (hc1 : cond0_1 (grid0.coords t)) (hc2 : ¬cond0_2 (grid0.coords t)) (hc3 : cond0_3 (grid0.coords t)) (hc4 : ¬cond0_4 (grid0.coords t)) :
    (run_B c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).2.1
      = [⟨Rect.unit (s := S1x8x128) ![0, 0, 0] S1x8x128.size inb_S1x8x128_S1x8x128_0_0_0,
          engOf (win fh0 t') (startW t.val) (rowU x0) (rowW x0) x1 x2 x3 x4 x5 (BitVec.ofNat 32 (t.val % 8)) (head xo9)⟩] := by
  have e : (run_B c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).2.1
      = [⟨Rect.unit (s := S1x8x128) ![0, 0, 0] S1x8x128.size inb_S1x8x128_S1x8x128_0_0_0,
          engOf (View.readAt (Elt F) scM0_0.view (Rect.unit (s := S2x1056x768) (k0_off8 (grid0.coords t)) S1x1056x768.size (k0_off8_inb (grid0.coords t))).toLoadRect
      ((rslot0_0 (Ring.sl 2 t.val)).view.writes (Elt F) (rslot0_0 (Ring.sl 2 t.val)).view.junk
        [⟨Rect.whole S1056x768, ReadAs.same.apply (View.read (Elt F) (srcB0_0 (Ring.bk 16 t.val)).view fh0)⟩])) (Scalar.minsi 7136#32 (Scalar.maxsi 0#32 (Scalar.subi (Scalar.muli (BitVec.ofNat 32 (grid0.coords t 1)) 1024#32) 16#32))) (View.readAt (Elt F) arg3.view (Rect.unit (s := S2x384) ![0, 0] S1x384.size inb_S2x384_S1x384_0_0).toLoadRect (harg3.unread x0)) (View.readAt (Elt F) arg3.view (Rect.unit (s := S2x384) ![1, 0] S1x384.size inb_S2x384_S1x384_1_0).toLoadRect (harg3.unread x0)) (View.readAt (Elt F) arg4.view (Rect.unit (s := S1x384) ![0, 0] S1x384.size inb_S1x384_S1x384_0_0).toLoadRect (harg4.unread x1)) (View.readAt (Elt F) arg5.view (Rect.unit (s := S1x384) ![0, 0] S1x384.size inb_S1x384_S1x384_0_0).toLoadRect (harg5.unread x2)) (View.readAt (Elt F) arg6.view (Rect.unit (s := S1x1) ![0, 0] S1x1.size inb_S1x1_S1x1_0_0).toLoadRect (harg6.unread x3)) (View.readAt (Elt F) arg7.view (Rect.unit (s := S768x768) ![0, 0] S768x768.size inb_S768x768_S768x768_0_0).toLoadRect (harg7.unread x4)) (View.readAt (Elt F) arg8.view (Rect.unit (s := S1x768) ![0, 0] S1x768.size inb_S1x768_S1x768_0_0).toLoadRect (harg8.unread x5)) (BitVec.ofNat 32 (grid0.coords t 1)) (View.readAt (Elt F) arg12.view (Rect.unit (s := S1x8x128) ![0, 0, 0] S1x1x1.size inb_S1x8x128_S1x1x1_0_0_0).toLoadRect (harg12.unread xo9))⟩] := rfl
  rw [e, load_win c t t' ht fh0, start_word, load_rowU, load_rowW, load_all harg4, load_all harg5, load_all harg6, load_all harg7, load_all harg8, load_head harg12, block_word]

/-- At the last block of a batch row, another row still to come the output block is the point's normalised rows, -/
theorem run_C_out (t' : Fin 16) (ht : t'.val = t.val) (hc0 : ¬cond0_0 (grid0.coords t)) (hc1 : cond0_1 (grid0.coords t)) (hc2 : ¬cond0_2 (grid0.coords t)) (hc3 : ¬cond0_3 (grid0.coords t)) (hc4 : cond0_4 (grid0.coords t)) :
    (run_C c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).1
      = [⟨Rect.unit (s := S1x1024x768) ![0, 0, 0] S1x1024x768.size inb_S1x1024x768_S1x1024x768_0_0_0,
          out32 (win fh0 t') (startW t.val) (rowU x0) (rowW x0) x1 x2 x3 x4 x5 x6 x7⟩] := by
  have e : (run_C c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).1
      = [⟨Rect.unit (s := S1x1024x768) ![0, 0, 0] S1x1024x768.size inb_S1x1024x768_S1x1024x768_0_0_0,
          out32 (View.readAt (Elt F) scM0_0.view (Rect.unit (s := S2x1056x768) (k0_off8 (grid0.coords t)) S1x1056x768.size (k0_off8_inb (grid0.coords t))).toLoadRect
      ((rslot0_0 (Ring.sl 2 t.val)).view.writes (Elt F) (rslot0_0 (Ring.sl 2 t.val)).view.junk
        [⟨Rect.whole S1056x768, ReadAs.same.apply (View.read (Elt F) (srcB0_0 (Ring.bk 16 t.val)).view fh0)⟩])) (Scalar.minsi 7136#32 (Scalar.maxsi 0#32 (Scalar.subi (Scalar.muli (BitVec.ofNat 32 (grid0.coords t 1)) 1024#32) 16#32))) (View.readAt (Elt F) arg3.view (Rect.unit (s := S2x384) ![0, 0] S1x384.size inb_S2x384_S1x384_0_0).toLoadRect (harg3.unread x0)) (View.readAt (Elt F) arg3.view (Rect.unit (s := S2x384) ![1, 0] S1x384.size inb_S2x384_S1x384_1_0).toLoadRect (harg3.unread x0)) (View.readAt (Elt F) arg4.view (Rect.unit (s := S1x384) ![0, 0] S1x384.size inb_S1x384_S1x384_0_0).toLoadRect (harg4.unread x1)) (View.readAt (Elt F) arg5.view (Rect.unit (s := S1x384) ![0, 0] S1x384.size inb_S1x384_S1x384_0_0).toLoadRect (harg5.unread x2)) (View.readAt (Elt F) arg6.view (Rect.unit (s := S1x1) ![0, 0] S1x1.size inb_S1x1_S1x1_0_0).toLoadRect (harg6.unread x3)) (View.readAt (Elt F) arg7.view (Rect.unit (s := S768x768) ![0, 0] S768x768.size inb_S768x768_S768x768_0_0).toLoadRect (harg7.unread x4)) (View.readAt (Elt F) arg8.view (Rect.unit (s := S1x768) ![0, 0] S1x768.size inb_S1x768_S1x768_0_0).toLoadRect (harg8.unread x5)) (View.readAt (Elt F) arg9.view (Rect.unit (s := S1x768) ![0, 0] S1x768.size inb_S1x768_S1x768_0_0).toLoadRect (harg9.unread x6)) (View.readAt (Elt F) arg10.view (Rect.unit (s := S1x768) ![0, 0] S1x768.size inb_S1x768_S1x768_0_0).toLoadRect (harg10.unread x7))⟩] := rfl
  rw [e, load_win c t t' ht fh0, start_word, load_rowU, load_rowW, load_all harg4, load_all harg5, load_all harg6, load_all harg7, load_all harg8, load_all harg9, load_all harg10]

/-- and the energy block is the point's energy added to the block before. -/
theorem run_C_eng (t' : Fin 16) (ht : t'.val = t.val) (hc0 : ¬cond0_0 (grid0.coords t)) (hc1 : cond0_1 (grid0.coords t)) (hc2 : ¬cond0_2 (grid0.coords t)) (hc3 : ¬cond0_3 (grid0.coords t)) (hc4 : cond0_4 (grid0.coords t)) :
    (run_C c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).2.1
      = [⟨Rect.unit (s := S1x8x128) ![0, 0, 0] S1x8x128.size inb_S1x8x128_S1x8x128_0_0_0,
          engOf (win fh0 t') (startW t.val) (rowU x0) (rowW x0) x1 x2 x3 x4 x5 (BitVec.ofNat 32 (t.val % 8)) (head xo9)⟩] := by
  have e : (run_C c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).2.1
      = [⟨Rect.unit (s := S1x8x128) ![0, 0, 0] S1x8x128.size inb_S1x8x128_S1x8x128_0_0_0,
          engOf (View.readAt (Elt F) scM0_0.view (Rect.unit (s := S2x1056x768) (k0_off8 (grid0.coords t)) S1x1056x768.size (k0_off8_inb (grid0.coords t))).toLoadRect
      ((rslot0_0 (Ring.sl 2 t.val)).view.writes (Elt F) (rslot0_0 (Ring.sl 2 t.val)).view.junk
        [⟨Rect.whole S1056x768, ReadAs.same.apply (View.read (Elt F) (srcB0_0 (Ring.bk 16 t.val)).view fh0)⟩])) (Scalar.minsi 7136#32 (Scalar.maxsi 0#32 (Scalar.subi (Scalar.muli (BitVec.ofNat 32 (grid0.coords t 1)) 1024#32) 16#32))) (View.readAt (Elt F) arg3.view (Rect.unit (s := S2x384) ![0, 0] S1x384.size inb_S2x384_S1x384_0_0).toLoadRect (harg3.unread x0)) (View.readAt (Elt F) arg3.view (Rect.unit (s := S2x384) ![1, 0] S1x384.size inb_S2x384_S1x384_1_0).toLoadRect (harg3.unread x0)) (View.readAt (Elt F) arg4.view (Rect.unit (s := S1x384) ![0, 0] S1x384.size inb_S1x384_S1x384_0_0).toLoadRect (harg4.unread x1)) (View.readAt (Elt F) arg5.view (Rect.unit (s := S1x384) ![0, 0] S1x384.size inb_S1x384_S1x384_0_0).toLoadRect (harg5.unread x2)) (View.readAt (Elt F) arg6.view (Rect.unit (s := S1x1) ![0, 0] S1x1.size inb_S1x1_S1x1_0_0).toLoadRect (harg6.unread x3)) (View.readAt (Elt F) arg7.view (Rect.unit (s := S768x768) ![0, 0] S768x768.size inb_S768x768_S768x768_0_0).toLoadRect (harg7.unread x4)) (View.readAt (Elt F) arg8.view (Rect.unit (s := S1x768) ![0, 0] S1x768.size inb_S1x768_S1x768_0_0).toLoadRect (harg8.unread x5)) (BitVec.ofNat 32 (grid0.coords t 1)) (View.readAt (Elt F) arg12.view (Rect.unit (s := S1x8x128) ![0, 0, 0] S1x1x1.size inb_S1x8x128_S1x1x1_0_0_0).toLoadRect (harg12.unread xo9))⟩] := rfl
  rw [e, load_win c t t' ht fh0, start_word, load_rowU, load_rowW, load_all harg4, load_all harg5, load_all harg6, load_all harg7, load_all harg8, load_head harg12, block_word]

/-- At the first block of a later batch row the output block is the point's normalised rows, -/
theorem run_D_out (t' : Fin 16) (ht : t'.val = t.val) (hc0 : ¬cond0_0 (grid0.coords t)) (hc1 : cond0_1 (grid0.coords t)) (hc2 : cond0_2 (grid0.coords t)) (hc3 : ¬cond0_3 (grid0.coords t)) (hc4 : ¬cond0_4 (grid0.coords t)) :
    (run_D c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).1
      = [⟨Rect.unit (s := S1x1024x768) ![0, 0, 0] S1x1024x768.size inb_S1x1024x768_S1x1024x768_0_0_0,
          out0 (win fh0 t') (startW t.val) (rowU x0) (rowW x0) x1 x2 x3 x4 x5 x6 x7⟩] := by
  have e : (run_D c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).1
      = [⟨Rect.unit (s := S1x1024x768) ![0, 0, 0] S1x1024x768.size inb_S1x1024x768_S1x1024x768_0_0_0,
          out0 (View.readAt (Elt F) scM0_0.view (Rect.unit (s := S2x1056x768) (k0_off8 (grid0.coords t)) S1x1056x768.size (k0_off8_inb (grid0.coords t))).toLoadRect
      ((rslot0_0 (Ring.sl 2 t.val)).view.writes (Elt F) (rslot0_0 (Ring.sl 2 t.val)).view.junk
        [⟨Rect.whole S1056x768, ReadAs.same.apply (View.read (Elt F) (srcB0_0 (Ring.bk 16 t.val)).view fh0)⟩])) (Scalar.minsi 7136#32 (Scalar.maxsi 0#32 (Scalar.subi (Scalar.muli (BitVec.ofNat 32 (grid0.coords t 1)) 1024#32) 16#32))) (View.readAt (Elt F) arg3.view (Rect.unit (s := S2x384) ![0, 0] S1x384.size inb_S2x384_S1x384_0_0).toLoadRect (harg3.unread x0)) (View.readAt (Elt F) arg3.view (Rect.unit (s := S2x384) ![1, 0] S1x384.size inb_S2x384_S1x384_1_0).toLoadRect (harg3.unread x0)) (View.readAt (Elt F) arg4.view (Rect.unit (s := S1x384) ![0, 0] S1x384.size inb_S1x384_S1x384_0_0).toLoadRect (harg4.unread x1)) (View.readAt (Elt F) arg5.view (Rect.unit (s := S1x384) ![0, 0] S1x384.size inb_S1x384_S1x384_0_0).toLoadRect (harg5.unread x2)) (View.readAt (Elt F) arg6.view (Rect.unit (s := S1x1) ![0, 0] S1x1.size inb_S1x1_S1x1_0_0).toLoadRect (harg6.unread x3)) (View.readAt (Elt F) arg7.view (Rect.unit (s := S768x768) ![0, 0] S768x768.size inb_S768x768_S768x768_0_0).toLoadRect (harg7.unread x4)) (View.readAt (Elt F) arg8.view (Rect.unit (s := S1x768) ![0, 0] S1x768.size inb_S1x768_S1x768_0_0).toLoadRect (harg8.unread x5)) (View.readAt (Elt F) arg9.view (Rect.unit (s := S1x768) ![0, 0] S1x768.size inb_S1x768_S1x768_0_0).toLoadRect (harg9.unread x6)) (View.readAt (Elt F) arg10.view (Rect.unit (s := S1x768) ![0, 0] S1x768.size inb_S1x768_S1x768_0_0).toLoadRect (harg10.unread x7))⟩] := rfl
  rw [e, load_win c t t' ht fh0, start_word, load_rowU, load_rowW, load_all harg4, load_all harg5, load_all harg6, load_all harg7, load_all harg8, load_all harg9, load_all harg10]

/-- and the energy block is the point's energy added to the block before. -/
theorem run_D_eng (t' : Fin 16) (ht : t'.val = t.val) (hc0 : ¬cond0_0 (grid0.coords t)) (hc1 : cond0_1 (grid0.coords t)) (hc2 : cond0_2 (grid0.coords t)) (hc3 : ¬cond0_3 (grid0.coords t)) (hc4 : ¬cond0_4 (grid0.coords t)) :
    (run_D c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).2.1
      = [⟨Rect.unit (s := S1x8x128) ![0, 0, 0] S1x8x128.size inb_S1x8x128_S1x8x128_0_0_0,
          engOf (win fh0 t') (startW t.val) (rowU x0) (rowW x0) x1 x2 x3 x4 x5 (BitVec.ofNat 32 (t.val % 8)) (head xo9)⟩] := by
  have e : (run_D c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).2.1
      = [⟨Rect.unit (s := S1x8x128) ![0, 0, 0] S1x8x128.size inb_S1x8x128_S1x8x128_0_0_0,
          engOf (View.readAt (Elt F) scM0_0.view (Rect.unit (s := S2x1056x768) (k0_off8 (grid0.coords t)) S1x1056x768.size (k0_off8_inb (grid0.coords t))).toLoadRect
      ((rslot0_0 (Ring.sl 2 t.val)).view.writes (Elt F) (rslot0_0 (Ring.sl 2 t.val)).view.junk
        [⟨Rect.whole S1056x768, ReadAs.same.apply (View.read (Elt F) (srcB0_0 (Ring.bk 16 t.val)).view fh0)⟩])) (Scalar.minsi 7136#32 (Scalar.maxsi 0#32 (Scalar.subi (Scalar.muli (BitVec.ofNat 32 (grid0.coords t 1)) 1024#32) 16#32))) (View.readAt (Elt F) arg3.view (Rect.unit (s := S2x384) ![0, 0] S1x384.size inb_S2x384_S1x384_0_0).toLoadRect (harg3.unread x0)) (View.readAt (Elt F) arg3.view (Rect.unit (s := S2x384) ![1, 0] S1x384.size inb_S2x384_S1x384_1_0).toLoadRect (harg3.unread x0)) (View.readAt (Elt F) arg4.view (Rect.unit (s := S1x384) ![0, 0] S1x384.size inb_S1x384_S1x384_0_0).toLoadRect (harg4.unread x1)) (View.readAt (Elt F) arg5.view (Rect.unit (s := S1x384) ![0, 0] S1x384.size inb_S1x384_S1x384_0_0).toLoadRect (harg5.unread x2)) (View.readAt (Elt F) arg6.view (Rect.unit (s := S1x1) ![0, 0] S1x1.size inb_S1x1_S1x1_0_0).toLoadRect (harg6.unread x3)) (View.readAt (Elt F) arg7.view (Rect.unit (s := S768x768) ![0, 0] S768x768.size inb_S768x768_S768x768_0_0).toLoadRect (harg7.unread x4)) (View.readAt (Elt F) arg8.view (Rect.unit (s := S1x768) ![0, 0] S1x768.size inb_S1x768_S1x768_0_0).toLoadRect (harg8.unread x5)) (BitVec.ofNat 32 (grid0.coords t 1)) (View.readAt (Elt F) arg12.view (Rect.unit (s := S1x8x128) ![0, 0, 0] S1x1x1.size inb_S1x8x128_S1x1x1_0_0_0).toLoadRect (harg12.unread xo9))⟩] := rfl
  rw [e, load_win c t t' ht fh0, start_word, load_rowU, load_rowW, load_all harg4, load_all harg5, load_all harg6, load_all harg7, load_all harg8, load_head harg12, block_word]

/-- At the very last point the output block is the point's normalised rows, -/
theorem run_E_out (t' : Fin 16) (ht : t'.val = t.val) (hc0 : ¬cond0_0 (grid0.coords t)) (hc1 : ¬cond0_1 (grid0.coords t)) (hc2 : ¬cond0_2 (grid0.coords t)) (hc3 : ¬cond0_3 (grid0.coords t)) (hc4 : cond0_4 (grid0.coords t)) :
    (run_E c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).1
      = [⟨Rect.unit (s := S1x1024x768) ![0, 0, 0] S1x1024x768.size inb_S1x1024x768_S1x1024x768_0_0_0,
          out32 (win fh0 t') (startW t.val) (rowU x0) (rowW x0) x1 x2 x3 x4 x5 x6 x7⟩] := by
  have e : (run_E c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).1
      = [⟨Rect.unit (s := S1x1024x768) ![0, 0, 0] S1x1024x768.size inb_S1x1024x768_S1x1024x768_0_0_0,
          out32 (View.readAt (Elt F) scM0_0.view (Rect.unit (s := S2x1056x768) (k0_off8 (grid0.coords t)) S1x1056x768.size (k0_off8_inb (grid0.coords t))).toLoadRect
      ((rslot0_0 (Ring.sl 2 t.val)).view.writes (Elt F) (rslot0_0 (Ring.sl 2 t.val)).view.junk
        [⟨Rect.whole S1056x768, ReadAs.same.apply (View.read (Elt F) (srcB0_0 (Ring.bk 16 t.val)).view fh0)⟩])) (Scalar.minsi 7136#32 (Scalar.maxsi 0#32 (Scalar.subi (Scalar.muli (BitVec.ofNat 32 (grid0.coords t 1)) 1024#32) 16#32))) (View.readAt (Elt F) arg3.view (Rect.unit (s := S2x384) ![0, 0] S1x384.size inb_S2x384_S1x384_0_0).toLoadRect (harg3.unread x0)) (View.readAt (Elt F) arg3.view (Rect.unit (s := S2x384) ![1, 0] S1x384.size inb_S2x384_S1x384_1_0).toLoadRect (harg3.unread x0)) (View.readAt (Elt F) arg4.view (Rect.unit (s := S1x384) ![0, 0] S1x384.size inb_S1x384_S1x384_0_0).toLoadRect (harg4.unread x1)) (View.readAt (Elt F) arg5.view (Rect.unit (s := S1x384) ![0, 0] S1x384.size inb_S1x384_S1x384_0_0).toLoadRect (harg5.unread x2)) (View.readAt (Elt F) arg6.view (Rect.unit (s := S1x1) ![0, 0] S1x1.size inb_S1x1_S1x1_0_0).toLoadRect (harg6.unread x3)) (View.readAt (Elt F) arg7.view (Rect.unit (s := S768x768) ![0, 0] S768x768.size inb_S768x768_S768x768_0_0).toLoadRect (harg7.unread x4)) (View.readAt (Elt F) arg8.view (Rect.unit (s := S1x768) ![0, 0] S1x768.size inb_S1x768_S1x768_0_0).toLoadRect (harg8.unread x5)) (View.readAt (Elt F) arg9.view (Rect.unit (s := S1x768) ![0, 0] S1x768.size inb_S1x768_S1x768_0_0).toLoadRect (harg9.unread x6)) (View.readAt (Elt F) arg10.view (Rect.unit (s := S1x768) ![0, 0] S1x768.size inb_S1x768_S1x768_0_0).toLoadRect (harg10.unread x7))⟩] := rfl
  rw [e, load_win c t t' ht fh0, start_word, load_rowU, load_rowW, load_all harg4, load_all harg5, load_all harg6, load_all harg7, load_all harg8, load_all harg9, load_all harg10]

/-- and the energy block is the point's energy added to the block before. -/
theorem run_E_eng (t' : Fin 16) (ht : t'.val = t.val) (hc0 : ¬cond0_0 (grid0.coords t)) (hc1 : ¬cond0_1 (grid0.coords t)) (hc2 : ¬cond0_2 (grid0.coords t)) (hc3 : ¬cond0_3 (grid0.coords t)) (hc4 : cond0_4 (grid0.coords t)) :
    (run_E c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).2.1
      = [⟨Rect.unit (s := S1x8x128) ![0, 0, 0] S1x8x128.size inb_S1x8x128_S1x8x128_0_0_0,
          engOf (win fh0 t') (startW t.val) (rowU x0) (rowW x0) x1 x2 x3 x4 x5 (BitVec.ofNat 32 (t.val % 8)) (head xo9)⟩] := by
  have e : (run_E c t arg3 harg3 arg4 harg4 arg5 harg5 arg6 harg6 arg7 harg7 arg8 harg8 arg9 harg9 arg10 harg10 arg11 harg11 arg12 harg12 x0 x1 x2 x3 x4 x5 x6 x7 xo9 fh0 hc0 hc1 hc2 hc3 hc4).2.1
      = [⟨Rect.unit (s := S1x8x128) ![0, 0, 0] S1x8x128.size inb_S1x8x128_S1x8x128_0_0_0,
          engOf (View.readAt (Elt F) scM0_0.view (Rect.unit (s := S2x1056x768) (k0_off8 (grid0.coords t)) S1x1056x768.size (k0_off8_inb (grid0.coords t))).toLoadRect
      ((rslot0_0 (Ring.sl 2 t.val)).view.writes (Elt F) (rslot0_0 (Ring.sl 2 t.val)).view.junk
        [⟨Rect.whole S1056x768, ReadAs.same.apply (View.read (Elt F) (srcB0_0 (Ring.bk 16 t.val)).view fh0)⟩])) (Scalar.minsi 7136#32 (Scalar.maxsi 0#32 (Scalar.subi (Scalar.muli (BitVec.ofNat 32 (grid0.coords t 1)) 1024#32) 16#32))) (View.readAt (Elt F) arg3.view (Rect.unit (s := S2x384) ![0, 0] S1x384.size inb_S2x384_S1x384_0_0).toLoadRect (harg3.unread x0)) (View.readAt (Elt F) arg3.view (Rect.unit (s := S2x384) ![1, 0] S1x384.size inb_S2x384_S1x384_1_0).toLoadRect (harg3.unread x0)) (View.readAt (Elt F) arg4.view (Rect.unit (s := S1x384) ![0, 0] S1x384.size inb_S1x384_S1x384_0_0).toLoadRect (harg4.unread x1)) (View.readAt (Elt F) arg5.view (Rect.unit (s := S1x384) ![0, 0] S1x384.size inb_S1x384_S1x384_0_0).toLoadRect (harg5.unread x2)) (View.readAt (Elt F) arg6.view (Rect.unit (s := S1x1) ![0, 0] S1x1.size inb_S1x1_S1x1_0_0).toLoadRect (harg6.unread x3)) (View.readAt (Elt F) arg7.view (Rect.unit (s := S768x768) ![0, 0] S768x768.size inb_S768x768_S768x768_0_0).toLoadRect (harg7.unread x4)) (View.readAt (Elt F) arg8.view (Rect.unit (s := S1x768) ![0, 0] S1x768.size inb_S1x768_S1x768_0_0).toLoadRect (harg8.unread x5)) (BitVec.ofNat 32 (grid0.coords t 1)) (View.readAt (Elt F) arg12.view (Rect.unit (s := S1x8x128) ![0, 0, 0] S1x1x1.size inb_S1x8x128_S1x1x1_0_0_0).toLoadRect (harg12.unread xo9))⟩] := rfl
  rw [e, load_win c t t' ht fh0, start_word, load_rowU, load_rowW, load_all harg4, load_all harg5, load_all harg6, load_all harg7, load_all harg8, load_head harg12, block_word]

end Cert.KernelIdeal.Run
-- ==== Proof.KernelIdealFrame.lean ====
/- The kernel's launch: what the two outputs hold after each grid point, the body's obligation at every point, the run of
   the whole program, and that it leaves the arguments unchanged. -/
module

public import proofs.«01_k».proof.Proof.KernelIdealVals
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the outputs hold -/

/-- A grid point's number among the sixteen. -/
def pt (t : Fin cfg0.N) : Fin 16 := t.cast N_0
/-- The output block after grid point `t`. -/
def outAt (c : Dev nD) (t : Fin cfg0.N) : Vec F S1x1024x768 .f32 :=
  outStep (V m c main_arg0) (iblk m c 0 t) (iblk m c 1 t) (iblk m c 2 t) (iblk m c 3 t) (iblk m c 4 t) (iblk m c 5 t) (iblk m c 6 t) (iblk m c 7 t) (pt t)
/-- The energy block that grid point `t` leaves where it found `y`. -/
def engNext (c : Dev nD) (t : Fin cfg0.N) (y : Vec F S1x8x128 .f32) : Vec F S1x8x128 .f32 :=
  engStep (V m c main_arg0) (iblk m c 0 t) (iblk m c 1 t) (iblk m c 2 t) (iblk m c 3 t) (iblk m c 4 t) (iblk m c 5 t) (pt t) y
/-- The energy block after grid point `n`: each point adds to what the point before left. -/
def engAt (c : Dev nD) : (n : ℕ) → n < cfg0.N → Vec F S1x8x128 .f32
  | 0, h => engNext m c ⟨0, h⟩ (fun _ => FloatOps.ofBits .f32 0#32)
  | n + 1, h => engNext m c ⟨n + 1, h⟩ (engAt c n (Nat.lt_of_succ_lt h))

/-- At the first block of a batch row the energy block is that point's alone, whatever was there; -/
theorem engAt_first (c : Dev nD) (t : Fin cfg0.N) (ht : t.val % 8 = 0) (y : Vec F S1x8x128 .f32) :
    engAt m c t.val t.isLt = engNext m c t y := by
  obtain ⟨n, hn⟩ := t
  cases n with
  | zero => exact engStep_first _ _ _ _ _ _ _ _ ht _ _
  | succ n => exact engStep_first _ _ _ _ _ _ _ _ ht _ _
/-- at a later block it is added to what the point before left. -/
theorem engAt_later (c : Dev nD) (t : Fin cfg0.N) (ht : t.val ≠ 0) :
    engAt m c t.val t.isLt = engNext m c t (engAt m c (t.val - 1) (Nat.lt_of_le_of_lt (Nat.sub_le _ _) t.isLt)) := by
  obtain ⟨n, hn⟩ := t
  cases n with
  | zero => exact absurd rfl ht
  | succ n => rfl

/-! ## The proof data -/

/-- Between grid points: the random generator's register at some state, and the ring of window buffers. -/
def PhiR (c : Dev nD) (k : ℕ) : sProp 𝕄 := iprop((∃ r, prngReg c r) ∗ ringAt0_0 c (V m c main_arg0) k)

/-- The arrays as the region finds them, each input's buffer at its block, the outputs' at `outAt` and `engAt`; nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
    | ⟨9, _⟩ => engAt m c t.val t.isLt
  Φ t := PhiR m c t.val
  q _ := fullShare
  owed _ := 0

/-- The arrays are as the region finds them. -/
theorem A_eq (c : Dev nD) (w : Fin cfg0.W) : (dats m 0 c).A w = V m c (Pipeline.arrRef spec0 w) := by
  dsimp only [dats]
/-- The invariant before a point, -/
theorem PhiR_castSucc (c : Dev nD) (t : Fin cfg0.N) : (dats m 0 c).Φ t.castSucc = PhiR m c t.val := by
  dsimp only [dats]; simp only [Fin.coe_castSucc]
/-- and after it. -/
theorem PhiR_succ (c : Dev nD) (t : Fin cfg0.N) : (dats m 0 c).Φ t.succ = PhiR m c (t.val + 1) := by
  dsimp only [dats]; simp only [Fin.val_succ]

/-! What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]
theorem after_9 (c : Dev nD) (t : Fin cfg0.N) : (dats m 0 c).after 9 t = engAt m c t.val t.isLt := by dsimp only [dats]

/-! Each input's buffer holds its block at every point. -/
theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d
theorem before_2 (c : Dev nD) (t : Fin cfg0.N) (d) : (dats m 0 c).before 2 t d = iblk m c 2 t :=
  before_in_2 m (dats m 0 c) (A_eq m c 2) (after_2 m c) t d
theorem before_3 (c : Dev nD) (t : Fin cfg0.N) (d) : (dats m 0 c).before 3 t d = iblk m c 3 t :=
  before_in_3 m (dats m 0 c) (A_eq m c 3) (after_3 m c) t d
theorem before_4 (c : Dev nD) (t : Fin cfg0.N) (d) : (dats m 0 c).before 4 t d = iblk m c 4 t :=
  before_in_4 m (dats m 0 c) (A_eq m c 4) (after_4 m c) t d
theorem before_5 (c : Dev nD) (t : Fin cfg0.N) (d) : (dats m 0 c).before 5 t d = iblk m c 5 t :=
  before_in_5 m (dats m 0 c) (A_eq m c 5) (after_5 m c) t d
theorem before_6 (c : Dev nD) (t : Fin cfg0.N) (d) : (dats m 0 c).before 6 t d = iblk m c 6 t :=
  before_in_6 m (dats m 0 c) (A_eq m c 6) (after_6 m c) t d
theorem before_7 (c : Dev nD) (t : Fin cfg0.N) (d) : (dats m 0 c).before 7 t d = iblk m c 7 t :=
  before_in_7 m (dats m 0 c) (A_eq m c 7) (after_7 m c) t d

/-- Away from the first block of a batch row the energy buffer still holds what the point before left. -/
theorem before_9 (c : Dev nD) (t : Fin cfg0.N) (h : ¬t.val % 8 = 0) (d) :
    (dats m 0 c).before 9 t d = engAt m c (t.val - 1) (Nat.lt_of_le_of_lt (Nat.sub_le _ _) t.isLt) := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]
/-- So at every point the energy block left is that point's step over the one found. -/
theorem engNext_before (c : Dev nD) (t : Fin cfg0.N) (d) :
    engNext m c t ((dats m 0 c).before 9 t d) = engAt m c t.val t.isLt := by
  by_cases h : t.val % 8 = 0
  · exact (engAt_first m c t h _).symm
  · rw [before_9 m c t h, engAt_later m c t (by omega)]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at the very first point. -/
theorem sound_A (c : Dev nD) (t : Fin cfg0.N) (h0 : t.val = 0) (h1 : t.val < 15) (h2 : t.val % 8 = 0) (h3 : ¬(1 ≤ t.val % 8 ∧ t.val % 8 ≤ 6)) (h4 : ¬t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 16 := N_0
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [live 0 t], after_0]
  rw [show (dats m 0 c).leavesExact 1 t = owns (c : Thread nD τ) (ms0_1 t) fullShare ((dats m 0 c).after 1 t) from by
    unfold Dat.leavesExact; rw [live 1 t], after_1]
  rw [show (dats m 0 c).leavesExact 2 t = owns (c : Thread nD τ) (ms0_2 t) fullShare ((dats m 0 c).after 2 t) from by
    unfold Dat.leavesExact; rw [live 2 t], after_2]
  rw [show (dats m 0 c).leavesExact 3 t = owns (c : Thread nD τ) (ms0_3 t) fullShare ((dats m 0 c).after 3 t) from by
    unfold Dat.leavesExact; rw [live 3 t], after_3]
  rw [show (dats m 0 c).leavesExact 4 t = owns (c : Thread nD τ) (ms0_4 t) fullShare ((dats m 0 c).after 4 t) from by
    unfold Dat.leavesExact; rw [live 4 t], after_4]
  rw [show (dats m 0 c).leavesExact 5 t = owns (c : Thread nD τ) (ms0_5 t) fullShare ((dats m 0 c).after 5 t) from by
    unfold Dat.leavesExact; rw [live 5 t], after_5]
  rw [show (dats m 0 c).leavesExact 6 t = owns (c : Thread nD τ) (ms0_6 t) fullShare ((dats m 0 c).after 6 t) from by
    unfold Dat.leavesExact; rw [live 6 t], after_6]
  rw [show (dats m 0 c).leavesExact 7 t = owns (c : Thread nD τ) (ms0_7 t) fullShare ((dats m 0 c).after 7 t) from by
    unfold Dat.leavesExact; rw [live 7 t], after_7]
  rw [show (dats m 0 c).leavesExact 8 t = owns (c : Thread nD τ) (ms0_8 t) fullShare ((dats m 0 c).after 8 t) from by
    unfold Dat.leavesExact; rw [live 8 t], after_8]
  rw [show (dats m 0 c).leavesExact 9 t = owns (c : Thread nD τ) (ms0_9 t) fullShare ((dats m 0 c).after 9 t) from by
    unfold Dat.leavesExact; rw [live 9 t], after_9]
  rw [if_pos h0, if_neg (show ¬t.val + 1 = 0 by omega)]
  rw [Ring.At₀_eq2' _ _ _ t.val h0 (by decide : 2 ≤ 16), Ring.AtK2_one' _ _ _ _ _ t.val h0 (by decide : 1 < 16)]
  iintro ⟨⟨Hg, ⟨-, Hfr0, Hfr1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e8 := run_A_out c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) ((dats m 0 c).before 9 t d9) (V m c main_arg0) (pt t) rfl ((hcond0_0 t).mpr h0) ((hcond0_1 t).mpr h1) ((hcond0_2 t).mpr h2) (fun h => h3 ((hcond0_3 t).mp h)) (fun h => h4 ((hcond0_4 t).mp h))
  have e9 := run_A_eng c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) ((dats m 0 c).before 9 t d9) (V m c main_arg0) (pt t) rfl ((hcond0_0 t).mpr h0) ((hcond0_1 t).mpr h1) ((hcond0_2 t).mpr h2) (fun h => h3 ((hcond0_3 t).mp h)) (fun h => h4 ((hcond0_4 t).mp h))
  iapply ((run_A c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) ((dats m 0 c).before 9 t d9) (V m c main_arg0) ((hcond0_0 t).mpr h0) ((hcond0_1 t).mpr h1) ((hcond0_2 t).mpr h2) (fun h => h3 ((hcond0_3 t).mp h)) (fun h => h4 ((hcond0_4 t).mp h))).2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [Hfr0]; · iexact Hfr0
  isplitl [Hfr1]; · iexact Hfr1
  isplitl [HW]; · iexact HW
  iintro ⟨H0, H1, H2, H3, H4, H5, H6, H7, ⟨%f8, H8⟩, ⟨%f9, H9⟩, Hfl', Hkp', ⟨%W', HW'⟩⟩
  isplitl [Hg Hfl' Hkp']
  · isplitl [Hg]; · iexact Hg
    iapply Ring.with_homes₀
    isplitl [Hfl']; · iexact Hfl'
    iexact Hkp'
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro
    rw [e8]
    refine (View.read_writes_full _ _ _ _ _).trans ?_
    unfold outAt outStep
    exact (if_pos h2 :).symm
  unfold owns; iexists _; isplitr
  swap; · iexact H9
  ipureintro
  rw [e9]
  refine (View.read_writes_full _ _ _ _ _).trans ?_
  exact engNext_before m c t d9

set_option maxHeartbeats 4000000 in
/-- The body at a block inside a batch row. -/
theorem sound_B (c : Dev nD) (t : Fin cfg0.N) (h0 : ¬t.val = 0) (h1 : t.val < 15) (h2 : ¬t.val % 8 = 0) (h3 : (1 ≤ t.val % 8 ∧ t.val % 8 ≤ 6)) (h4 : ¬t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 16 := N_0
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [live 0 t], after_0]
  rw [show (dats m 0 c).leavesExact 1 t = owns (c : Thread nD τ) (ms0_1 t) fullShare ((dats m 0 c).after 1 t) from by
    unfold Dat.leavesExact; rw [live 1 t], after_1]
  rw [show (dats m 0 c).leavesExact 2 t = owns (c : Thread nD τ) (ms0_2 t) fullShare ((dats m 0 c).after 2 t) from by
    unfold Dat.leavesExact; rw [live 2 t], after_2]
  rw [show (dats m 0 c).leavesExact 3 t = owns (c : Thread nD τ) (ms0_3 t) fullShare ((dats m 0 c).after 3 t) from by
    unfold Dat.leavesExact; rw [live 3 t], after_3]
  rw [show (dats m 0 c).leavesExact 4 t = owns (c : Thread nD τ) (ms0_4 t) fullShare ((dats m 0 c).after 4 t) from by
    unfold Dat.leavesExact; rw [live 4 t], after_4]
  rw [show (dats m 0 c).leavesExact 5 t = owns (c : Thread nD τ) (ms0_5 t) fullShare ((dats m 0 c).after 5 t) from by
    unfold Dat.leavesExact; rw [live 5 t], after_5]
  rw [show (dats m 0 c).leavesExact 6 t = owns (c : Thread nD τ) (ms0_6 t) fullShare ((dats m 0 c).after 6 t) from by
    unfold Dat.leavesExact; rw [live 6 t], after_6]
  rw [show (dats m 0 c).leavesExact 7 t = owns (c : Thread nD τ) (ms0_7 t) fullShare ((dats m 0 c).after 7 t) from by
    unfold Dat.leavesExact; rw [live 7 t], after_7]
  rw [show (dats m 0 c).leavesExact 8 t = owns (c : Thread nD τ) (ms0_8 t) fullShare ((dats m 0 c).after 8 t) from by
    unfold Dat.leavesExact; rw [live 8 t], after_8]
  rw [show (dats m 0 c).leavesExact 9 t = owns (c : Thread nD τ) (ms0_9 t) fullShare ((dats m 0 c).after 9 t) from by
    unfold Dat.leavesExact; rw [live 9 t], after_9]
  rw [if_neg (show ¬t.val = 0 by omega), if_neg (show ¬t.val + 1 = 0 by omega)]
  rw [Ring.AtK2_here _ _ _ _ _ t.val (by omega) (by omega), Ring.AtK2_next _ _ _ _ _ t.val (by omega) (by omega)]
  iintro ⟨⟨Hg, ⟨-, Hfl, Hkp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e8 := run_B_out c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) ((dats m 0 c).before 9 t d9) (V m c main_arg0) (pt t) rfl (fun h => h0 ((hcond0_0 t).mp h)) ((hcond0_1 t).mpr h1) (fun h => h2 ((hcond0_2 t).mp h)) ((hcond0_3 t).mpr h3) (fun h => h4 ((hcond0_4 t).mp h))
  have e9 := run_B_eng c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) ((dats m 0 c).before 9 t d9) (V m c main_arg0) (pt t) rfl (fun h => h0 ((hcond0_0 t).mp h)) ((hcond0_1 t).mpr h1) (fun h => h2 ((hcond0_2 t).mp h)) ((hcond0_3 t).mpr h3) (fun h => h4 ((hcond0_4 t).mp h))
  iapply ((run_B c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) ((dats m 0 c).before 9 t d9) (V m c main_arg0) (fun h => h0 ((hcond0_0 t).mp h)) ((hcond0_1 t).mpr h1) (fun h => h2 ((hcond0_2 t).mp h)) ((hcond0_3 t).mpr h3) (fun h => h4 ((hcond0_4 t).mp h))).2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [Hfl]; · iexact Hfl
  isplitl [Hkp]; · iexact Hkp
  isplitl [HW]; · iexact HW
  iintro ⟨H0, H1, H2, H3, H4, H5, H6, H7, ⟨%f8, H8⟩, ⟨%f9, H9⟩, Hfl', Hkp', ⟨%W', HW'⟩⟩
  isplitl [Hg Hfl' Hkp']
  · isplitl [Hg]; · iexact Hg
    iapply (Ring.with_homes (Idealize.SL.BI.Entails.refl _))
    isplitl [Hfl']; · iexact Hfl'
    iexact Hkp'
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro
    rw [e8]
    refine (View.read_writes_full _ _ _ _ _).trans ?_
    unfold outAt outStep
    exact ((if_neg h2).trans (if_neg h4) :).symm
  unfold owns; iexists _; isplitr
  swap; · iexact H9
  ipureintro
  rw [e9]
  refine (View.read_writes_full _ _ _ _ _).trans ?_
  exact engNext_before m c t d9

set_option maxHeartbeats 4000000 in
/-- The body at the last block of the first batch row. -/
theorem sound_C (c : Dev nD) (t : Fin cfg0.N) (h0 : ¬t.val = 0) (h1 : t.val < 15) (h2 : ¬t.val % 8 = 0) (h3 : ¬(1 ≤ t.val % 8 ∧ t.val % 8 ≤ 6)) (h4 : t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 16 := N_0
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [live 0 t], after_0]
  rw [show (dats m 0 c).leavesExact 1 t = owns (c : Thread nD τ) (ms0_1 t) fullShare ((dats m 0 c).after 1 t) from by
    unfold Dat.leavesExact; rw [live 1 t], after_1]
  rw [show (dats m 0 c).leavesExact 2 t = owns (c : Thread nD τ) (ms0_2 t) fullShare ((dats m 0 c).after 2 t) from by
    unfold Dat.leavesExact; rw [live 2 t], after_2]
  rw [show (dats m 0 c).leavesExact 3 t = owns (c : Thread nD τ) (ms0_3 t) fullShare ((dats m 0 c).after 3 t) from by
    unfold Dat.leavesExact; rw [live 3 t], after_3]
  rw [show (dats m 0 c).leavesExact 4 t = owns (c : Thread nD τ) (ms0_4 t) fullShare ((dats m 0 c).after 4 t) from by
    unfold Dat.leavesExact; rw [live 4 t], after_4]
  rw [show (dats m 0 c).leavesExact 5 t = owns (c : Thread nD τ) (ms0_5 t) fullShare ((dats m 0 c).after 5 t) from by
    unfold Dat.leavesExact; rw [live 5 t], after_5]
  rw [show (dats m 0 c).leavesExact 6 t = owns (c : Thread nD τ) (ms0_6 t) fullShare ((dats m 0 c).after 6 t) from by
    unfold Dat.leavesExact; rw [live 6 t], after_6]
  rw [show (dats m 0 c).leavesExact 7 t = owns (c : Thread nD τ) (ms0_7 t) fullShare ((dats m 0 c).after 7 t) from by
    unfold Dat.leavesExact; rw [live 7 t], after_7]
  rw [show (dats m 0 c).leavesExact 8 t = owns (c : Thread nD τ) (ms0_8 t) fullShare ((dats m 0 c).after 8 t) from by
    unfold Dat.leavesExact; rw [live 8 t], after_8]
  rw [show (dats m 0 c).leavesExact 9 t = owns (c : Thread nD τ) (ms0_9 t) fullShare ((dats m 0 c).after 9 t) from by
    unfold Dat.leavesExact; rw [live 9 t], after_9]
  rw [if_neg (show ¬t.val = 0 by omega), if_neg (show ¬t.val + 1 = 0 by omega)]
  rw [Ring.AtK2_here _ _ _ _ _ t.val (by omega) (by omega), Ring.AtK2_next _ _ _ _ _ t.val (by omega) (by omega)]
  iintro ⟨⟨Hg, ⟨-, Hfl, Hkp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e8 := run_C_out c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) ((dats m 0 c).before 9 t d9) (V m c main_arg0) (pt t) rfl (fun h => h0 ((hcond0_0 t).mp h)) ((hcond0_1 t).mpr h1) (fun h => h2 ((hcond0_2 t).mp h)) (fun h => h3 ((hcond0_3 t).mp h)) ((hcond0_4 t).mpr h4)
  have e9 := run_C_eng c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) ((dats m 0 c).before 9 t d9) (V m c main_arg0) (pt t) rfl (fun h => h0 ((hcond0_0 t).mp h)) ((hcond0_1 t).mpr h1) (fun h => h2 ((hcond0_2 t).mp h)) (fun h => h3 ((hcond0_3 t).mp h)) ((hcond0_4 t).mpr h4)
  iapply ((run_C c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) ((dats m 0 c).before 9 t d9) (V m c main_arg0) (fun h => h0 ((hcond0_0 t).mp h)) ((hcond0_1 t).mpr h1) (fun h => h2 ((hcond0_2 t).mp h)) (fun h => h3 ((hcond0_3 t).mp h)) ((hcond0_4 t).mpr h4)).2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [Hfl]; · iexact Hfl
  isplitl [Hkp]; · iexact Hkp
  isplitl [HW]; · iexact HW
  iintro ⟨H0, H1, H2, H3, H4, H5, H6, H7, ⟨%f8, H8⟩, ⟨%f9, H9⟩, Hfl', Hkp', ⟨%W', HW'⟩⟩
  isplitl [Hg Hfl' Hkp']
  · isplitl [Hg]; · iexact Hg
    iapply (Ring.with_homes (Idealize.SL.BI.Entails.refl _))
    isplitl [Hfl']; · iexact Hfl'
    iexact Hkp'
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro
    rw [e8]
    refine (View.read_writes_full _ _ _ _ _).trans ?_
    unfold outAt outStep
    exact ((if_neg h2).trans (if_pos h4) :).symm
  unfold owns; iexists _; isplitr
  swap; · iexact H9
  ipureintro
  rw [e9]
  refine (View.read_writes_full _ _ _ _ _).trans ?_
  exact engNext_before m c t d9

set_option maxHeartbeats 4000000 in
/-- The body at the first block of the second batch row. -/
theorem sound_D (c : Dev nD) (t : Fin cfg0.N) (h0 : ¬t.val = 0) (h1 : t.val < 15) (h2 : t.val % 8 = 0) (h3 : ¬(1 ≤ t.val % 8 ∧ t.val % 8 ≤ 6)) (h4 : ¬t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 16 := N_0
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [live 0 t], after_0]
  rw [show (dats m 0 c).leavesExact 1 t = owns (c : Thread nD τ) (ms0_1 t) fullShare ((dats m 0 c).after 1 t) from by
    unfold Dat.leavesExact; rw [live 1 t], after_1]
  rw [show (dats m 0 c).leavesExact 2 t = owns (c : Thread nD τ) (ms0_2 t) fullShare ((dats m 0 c).after 2 t) from by
    unfold Dat.leavesExact; rw [live 2 t], after_2]
  rw [show (dats m 0 c).leavesExact 3 t = owns (c : Thread nD τ) (ms0_3 t) fullShare ((dats m 0 c).after 3 t) from by
    unfold Dat.leavesExact; rw [live 3 t], after_3]
  rw [show (dats m 0 c).leavesExact 4 t = owns (c : Thread nD τ) (ms0_4 t) fullShare ((dats m 0 c).after 4 t) from by
    unfold Dat.leavesExact; rw [live 4 t], after_4]
  rw [show (dats m 0 c).leavesExact 5 t = owns (c : Thread nD τ) (ms0_5 t) fullShare ((dats m 0 c).after 5 t) from by
    unfold Dat.leavesExact; rw [live 5 t], after_5]
  rw [show (dats m 0 c).leavesExact 6 t = owns (c : Thread nD τ) (ms0_6 t) fullShare ((dats m 0 c).after 6 t) from by
    unfold Dat.leavesExact; rw [live 6 t], after_6]
  rw [show (dats m 0 c).leavesExact 7 t = owns (c : Thread nD τ) (ms0_7 t) fullShare ((dats m 0 c).after 7 t) from by
    unfold Dat.leavesExact; rw [live 7 t], after_7]
  rw [show (dats m 0 c).leavesExact 8 t = owns (c : Thread nD τ) (ms0_8 t) fullShare ((dats m 0 c).after 8 t) from by
    unfold Dat.leavesExact; rw [live 8 t], after_8]
  rw [show (dats m 0 c).leavesExact 9 t = owns (c : Thread nD τ) (ms0_9 t) fullShare ((dats m 0 c).after 9 t) from by
    unfold Dat.leavesExact; rw [live 9 t], after_9]
  rw [if_neg (show ¬t.val = 0 by omega), if_neg (show ¬t.val + 1 = 0 by omega)]
  rw [Ring.AtK2_here _ _ _ _ _ t.val (by omega) (by omega), Ring.AtK2_next _ _ _ _ _ t.val (by omega) (by omega)]
  iintro ⟨⟨Hg, ⟨-, Hfl, Hkp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e8 := run_D_out c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) ((dats m 0 c).before 9 t d9) (V m c main_arg0) (pt t) rfl (fun h => h0 ((hcond0_0 t).mp h)) ((hcond0_1 t).mpr h1) ((hcond0_2 t).mpr h2) (fun h => h3 ((hcond0_3 t).mp h)) (fun h => h4 ((hcond0_4 t).mp h))
  have e9 := run_D_eng c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) ((dats m 0 c).before 9 t d9) (V m c main_arg0) (pt t) rfl (fun h => h0 ((hcond0_0 t).mp h)) ((hcond0_1 t).mpr h1) ((hcond0_2 t).mpr h2) (fun h => h3 ((hcond0_3 t).mp h)) (fun h => h4 ((hcond0_4 t).mp h))
  iapply ((run_D c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) ((dats m 0 c).before 9 t d9) (V m c main_arg0) (fun h => h0 ((hcond0_0 t).mp h)) ((hcond0_1 t).mpr h1) ((hcond0_2 t).mpr h2) (fun h => h3 ((hcond0_3 t).mp h)) (fun h => h4 ((hcond0_4 t).mp h))).2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [Hfl]; · iexact Hfl
  isplitl [Hkp]; · iexact Hkp
  isplitl [HW]; · iexact HW
  iintro ⟨H0, H1, H2, H3, H4, H5, H6, H7, ⟨%f8, H8⟩, ⟨%f9, H9⟩, Hfl', Hkp', ⟨%W', HW'⟩⟩
  isplitl [Hg Hfl' Hkp']
  · isplitl [Hg]; · iexact Hg
    iapply (Ring.with_homes (Idealize.SL.BI.Entails.refl _))
    isplitl [Hfl']; · iexact Hfl'
    iexact Hkp'
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro
    rw [e8]
    refine (View.read_writes_full _ _ _ _ _).trans ?_
    unfold outAt outStep
    exact (if_pos h2 :).symm
  unfold owns; iexists _; isplitr
  swap; · iexact H9
  ipureintro
  rw [e9]
  refine (View.read_writes_full _ _ _ _ _).trans ?_
  exact engNext_before m c t d9

set_option maxHeartbeats 4000000 in
/-- The body at the very last point. -/
theorem sound_E (c : Dev nD) (t : Fin cfg0.N) (h0 : ¬t.val = 0) (h1 : ¬t.val < 15) (h2 : ¬t.val % 8 = 0) (h3 : ¬(1 ≤ t.val % 8 ∧ t.val % 8 ≤ 6)) (h4 : t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 16 := N_0
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [live 0 t], after_0]
  rw [show (dats m 0 c).leavesExact 1 t = owns (c : Thread nD τ) (ms0_1 t) fullShare ((dats m 0 c).after 1 t) from by
    unfold Dat.leavesExact; rw [live 1 t], after_1]
  rw [show (dats m 0 c).leavesExact 2 t = owns (c : Thread nD τ) (ms0_2 t) fullShare ((dats m 0 c).after 2 t) from by
    unfold Dat.leavesExact; rw [live 2 t], after_2]
  rw [show (dats m 0 c).leavesExact 3 t = owns (c : Thread nD τ) (ms0_3 t) fullShare ((dats m 0 c).after 3 t) from by
    unfold Dat.leavesExact; rw [live 3 t], after_3]
  rw [show (dats m 0 c).leavesExact 4 t = owns (c : Thread nD τ) (ms0_4 t) fullShare ((dats m 0 c).after 4 t) from by
    unfold Dat.leavesExact; rw [live 4 t], after_4]
  rw [show (dats m 0 c).leavesExact 5 t = owns (c : Thread nD τ) (ms0_5 t) fullShare ((dats m 0 c).after 5 t) from by
    unfold Dat.leavesExact; rw [live 5 t], after_5]
  rw [show (dats m 0 c).leavesExact 6 t = owns (c : Thread nD τ) (ms0_6 t) fullShare ((dats m 0 c).after 6 t) from by
    unfold Dat.leavesExact; rw [live 6 t], after_6]
  rw [show (dats m 0 c).leavesExact 7 t = owns (c : Thread nD τ) (ms0_7 t) fullShare ((dats m 0 c).after 7 t) from by
    unfold Dat.leavesExact; rw [live 7 t], after_7]
  rw [show (dats m 0 c).leavesExact 8 t = owns (c : Thread nD τ) (ms0_8 t) fullShare ((dats m 0 c).after 8 t) from by
    unfold Dat.leavesExact; rw [live 8 t], after_8]
  rw [show (dats m 0 c).leavesExact 9 t = owns (c : Thread nD τ) (ms0_9 t) fullShare ((dats m 0 c).after 9 t) from by
    unfold Dat.leavesExact; rw [live 9 t], after_9]
  rw [if_neg (show ¬t.val = 0 by omega), if_neg (show ¬t.val + 1 = 0 by omega)]
  rw [Ring.AtK2_here_last _ _ _ _ _ t.val (by omega) (by omega), Ring.AtK2_next_last _ _ _ _ _ t.val (by omega) (by omega)]
  iintro ⟨⟨Hg, ⟨-, Hfl, Hkp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e8 := run_E_out c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) ((dats m 0 c).before 9 t d9) (V m c main_arg0) (pt t) rfl (fun h => h0 ((hcond0_0 t).mp h)) (fun h => h1 ((hcond0_1 t).mp h)) (fun h => h2 ((hcond0_2 t).mp h)) (fun h => h3 ((hcond0_3 t).mp h)) ((hcond0_4 t).mpr h4)
  have e9 := run_E_eng c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) ((dats m 0 c).before 9 t d9) (V m c main_arg0) (pt t) rfl (fun h => h0 ((hcond0_0 t).mp h)) (fun h => h1 ((hcond0_1 t).mp h)) (fun h => h2 ((hcond0_2 t).mp h)) (fun h => h3 ((hcond0_3 t).mp h)) ((hcond0_4 t).mpr h4)
  iapply ((run_E c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) ((dats m 0 c).before 9 t d9) (V m c main_arg0) (fun h => h0 ((hcond0_0 t).mp h)) (fun h => h1 ((hcond0_1 t).mp h)) (fun h => h2 ((hcond0_2 t).mp h)) (fun h => h3 ((hcond0_3 t).mp h)) ((hcond0_4 t).mpr h4)).2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [Hfl]; · iexact Hfl
  isplitl [HW]; · iexact HW
  iintro ⟨H0, H1, H2, H3, H4, H5, H6, H7, ⟨%f8, H8⟩, ⟨%f9, H9⟩, Hkp', ⟨%W', HW'⟩⟩
  isplitl [Hg Hkp Hkp']
  · isplitl [Hg]; · iexact Hg
    iapply (Ring.with_homes (Idealize.SL.BI.Entails.refl _))
    isplitl [Hkp]; · iexact Hkp
    iexact Hkp'
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro
    rw [e8]
    refine (View.read_writes_full _ _ _ _ _).trans ?_
    unfold outAt outStep
    exact ((if_neg h2).trans (if_pos h4) :).symm
  unfold owns; iexists _; isplitr
  swap; · iexact H9
  ipureintro
  rw [e9]
  refine (View.read_writes_full _ _ _ _ _).trans ?_
  exact engNext_before m c t d9

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  by_cases h0 : t.val = 0
  · exact sound_A m c t h0 (by omega) (by omega) (by omega) (by omega)
  by_cases h1 : t.val < 15
  · by_cases h2 : t.val % 8 = 0
    · exact sound_D m c t h0 h1 h2 (by omega) (by omega)
    · by_cases h4 : t.val % 8 = 7
      · exact sound_C m c t h0 h1 h2 (by omega) h4
      · exact sound_B m c t h0 h1 h2 (by omega) h4
  · exact sound_E m c t h0 h1 (by omega) (by omega) (by omega)

/-- The body table's row at a point is the body at that point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands the region the invariant before the first point, -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨HR0_0, Hg, ⟨Hq0, Hq1⟩, Hh0⟩
  isplitl [Hg]; · iexact Hg
  iapply (ring0_0_in (F := F) m c)
  isplitl [HR0_0]; · iexact HR0_0
  isplitl [Hq0 Hq1]
  · isplitl [Hq0]; · iexact Hq0
    iexact Hq1
  iexact Hh0
/-- and takes back the one after the last. -/
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 16 by rw [N_0]]
  iintro ⟨Hg, HR0_0⟩
  ihave HX0_0 := (ring0_0_out (F := F) m c) $$ HR0_0
  icases HX0_0 with ⟨HR0_0, ⟨Hq0, Hq1⟩, Hh0⟩
  isplitl [HR0_0]
  · iexact HR0_0
  isplitl [Hg]
  · iexact Hg
  isplitl [Hq0 Hq1]
  · isplitl [Hq0]; · iexact Hq0
    iexact Hq1
  iexact Hh0

/-! ## The run and the frame -/

set_option backward.isDefEq.respectTransparency.types false in
set_option maxHeartbeats 800000 in
/-- The run of the whole program: it ends, every counter at zero, with the pipeline's arrays as the proof data say and every
    other buffer as the lines after the region leave it. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- The run's end leaves a device's arguments as they were. -/
theorem args_kept {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  ⟨(((h c).2 main_arg0 (Pipeline.mem_restRefs_of main_arg0 (by decide) (by decide))).trans
      ((tail_keeps m (dats m) c main_arg0 (by decide) (by decide) (by decide)).trans (V_main_arg0 m c))),
    (((h c).2 main_arg1 (Pipeline.mem_restRefs_of main_arg1 (by decide) (by decide))).trans
      ((tail_keeps m (dats m) c main_arg1 (by decide) (by decide) (by decide)).trans (V_main_arg1 m c))),
    ((h c).1 0).trans (((dats m 0 c).arrAt_in 0 rfl _).trans ((A_eq m c 0).trans (V_main_arg2 m c))),
    (((h c).2 main_arg3 (Pipeline.mem_restRefs_of main_arg3 (by decide) (by decide))).trans
      ((tail_keeps m (dats m) c main_arg3 (by decide) (by decide) (by decide)).trans (V_main_arg3 m c))),
    (((h c).2 main_arg4 (Pipeline.mem_restRefs_of main_arg4 (by decide) (by decide))).trans
      ((tail_keeps m (dats m) c main_arg4 (by decide) (by decide) (by decide)).trans (V_main_arg4 m c))),
    (((h c).2 main_arg5 (Pipeline.mem_restRefs_of main_arg5 (by decide) (by decide))).trans
      ((tail_keeps m (dats m) c main_arg5 (by decide) (by decide) (by decide)).trans (V_main_arg5 m c))),
    ((h c).1 4).trans (((dats m 0 c).arrAt_in 4 rfl _).trans ((A_eq m c 4).trans (V_main_arg6 m c))),
    (((h c).2 main_arg7 (Pipeline.mem_restRefs_of main_arg7 (by decide) (by decide))).trans
      ((tail_keeps m (dats m) c main_arg7 (by decide) (by decide) (by decide)).trans (V_main_arg7 m c))),
    (((h c).2 main_arg8 (Pipeline.mem_restRefs_of main_arg8 (by decide) (by decide))).trans
      ((tail_keeps m (dats m) c main_arg8 (by decide) (by decide) (by decide)).trans (V_main_arg8 m c))),
    (((h c).2 main_arg9 (Pipeline.mem_restRefs_of main_arg9 (by decide) (by decide))).trans
      ((tail_keeps m (dats m) c main_arg9 (by decide) (by decide) (by decide)).trans (V_main_arg9 m c)))⟩

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ hh => ⟨fun c => args_kept m hh.1 c, hh.2⟩) (run_main m ρ)

end Cert.KernelIdeal.Run
-- ==== Proof.Finite.lean ====
/- The precondition: where it holds, the entries of the hidden states, of the query weights and of the query bias are real
   numbers. -/
module

public import proofs.«01_k».proof.Pre_finite
public import Idealize.ShloMosaic.Lib.ReduceAll
public import Idealize.ShloMosaic.Lib.Pointwise
public import Idealize.ShloMosaic.Lib.Pointwise.IndexVar

@[expose] public section

noncomputable section

namespace Cert.Pre_finite

open Idealize.ShloMosaic

theorem facts : Facts where
  bcast_S_S2x8192x768 := by decide
  reducesTo_S2x8192x768_S_d0_1_2 := by decide
  h_S_ := by decide
  bcast_S_S768x768 := by decide
  reducesTo_S768x768_S_d0_1 := by decide
  bcast_S_S768 := by decide
  reducesTo_S768_S_d0 := by decide

/-- The word compared with is infinity. -/
theorem inf_word : Ideal.ofBits .f32 0x7F800000#32 = ⊤ := by simp [Ideal.ofBits, Ideal.ieee]

/-- A number whose absolute value is below infinity is real. -/
theorem real_of_lt (v : Ideal .f32) (h : Ideal.cmp .olt (max v (-v)) (Ideal.ofBits .f32 0x7F800000#32) = 1#1) :
    v = ((EReal.toReal v : ℝ) : EReal) := by
  rw [inf_word] at h
  have hlt : max v (-v) < (⊤ : EReal) := by
    by_contra hn
    revert h
    simp [Ideal.cmp, hn]
  refine (EReal.coe_toReal ?_ ?_).symm
  · rintro rfl
    simp at hlt
  · rintro rfl
    simp at hlt

instance : Subsingleton S_.Idx := inferInstanceAs (Subsingleton ((k : Fin 0) → _))

variable [Facts] (a0 : FVec Ideal S2x8192x768 .f32) (a1 : IVec S2x8192 32) (a2 : FVec Ideal S2x384 .f32) (a3 : FVec Ideal S384 .f32)
  (a4 : FVec Ideal S384x1 .f32) (a5 : FVec Ideal S1 .f32) (a6 : FVec Ideal S768x768 .f32) (a7 a8 a9 : FVec Ideal S768 .f32)

theorem reals (h : fn (F := Ideal) a0 a1 a2 a3 a4 a5 a6 a7 a8 a9 = fun _ => 1#1) :
    (∀ i, a0 i = ((EReal.toReal (a0 i) : ℝ) : EReal)) ∧ (∀ i, a6 i = ((EReal.toReal (a6 i) : ℝ) : EReal)) ∧ (∀ i, a7 i = ((EReal.toReal (a7 i) : ℝ) : EReal)) := by
  have e := congrFun h (fun k => k.elim0)
  unfold fn at e
  obtain ⟨e, h7⟩ := IntOp.andi_eq_one.1 e
  obtain ⟨h0, h6⟩ := IntOp.andi_eq_one.1 e
  exact ⟨fun i => real_of_lt _ (Host.reduce_andi_all _ _ _ _ _ h0 i), fun i => real_of_lt _ (Host.reduce_andi_all _ _ _ _ _ h6 i),
    fun i => real_of_lt _ (Host.reduce_andi_all _ _ _ _ _ h7 i)⟩

end Cert.Pre_finite
-- ==== Proof.KernelBlocks.lean ====
/- The blocks that the launch hands the body: each of its eight pipelined inputs is its whole array, the row vectors laid
   out as rows by the host. -/
module

public import proofs.«01_k».proof.Proof.KernelIdealFrame
public import Idealize.ShloMosaic.Lib.Pipeline.ValueKit
public import Idealize.ShloMosaic.Lib.Claim
public import Idealize.ShloMosaic.Lib.Pointwise
public import Idealize.ShloMosaic.Lib.Pointwise.IndexVar

@[expose] public section

set_option maxRecDepth 16384

noncomputable section

namespace Cert.Diffusion

open Idealize.ShloMosaic Idealize.ShloMosaic.TcCoe Cert.KernelIdeal Cert.KernelIdeal.Gen

variable (m : (ℓ : Loc nD τ sig) → Buf (Elt Ideal) ℓ) (c : Dev nD)

/-- The arguments. -/
def hiddenK : FVec Ideal S2x8192x768 .f32 := m ((c : Thread nD τ).loc main_arg0)
def w1K : FVec Ideal S2x384 .f32 := m ((c : Thread nD τ).loc main_arg2)
def b1K : FVec Ideal S384 .f32 := m ((c : Thread nD τ).loc main_arg3)
def w2K : FVec Ideal S384x1 .f32 := m ((c : Thread nD τ).loc main_arg4)
def b2K : FVec Ideal S1 .f32 := m ((c : Thread nD τ).loc main_arg5)
def wqK : FVec Ideal S768x768 .f32 := m ((c : Thread nD τ).loc main_arg6)
def bqK : FVec Ideal S768 .f32 := m ((c : Thread nD τ).loc main_arg7)
def gammaK : FVec Ideal S768 .f32 := m ((c : Thread nD τ).loc main_arg8)
def betaK : FVec Ideal S768 .f32 := m ((c : Thread nD τ).loc main_arg9)

/-- The blocks. -/
def in0 (t : Fin cfg0.N) : FVec Ideal S2x384 .f32 := iblk m c 0 t
def in1 (t : Fin cfg0.N) : FVec Ideal S1x384 .f32 := iblk m c 1 t
def in2 (t : Fin cfg0.N) : FVec Ideal S1x384 .f32 := iblk m c 2 t
def in3 (t : Fin cfg0.N) : FVec Ideal S1x1 .f32 := iblk m c 3 t
def in4 (t : Fin cfg0.N) : FVec Ideal S768x768 .f32 := iblk m c 4 t
def in5 (t : Fin cfg0.N) : FVec Ideal S1x768 .f32 := iblk m c 5 t
def in6 (t : Fin cfg0.N) : FVec Ideal S1x768 .f32 := iblk m c 6 t
def in7 (t : Fin cfg0.N) : FVec Ideal S1x768 .f32 := iblk m c 7 t

variable (t : Fin cfg0.N)

/- Every one of these windows stays at the origin. -/
theorem index_0 : ∀ t, win0_0.index t = ![0, 0] := by decide +kernel
theorem index_1 : ∀ t, win0_1.index t = ![0, 0] := by decide +kernel
theorem index_2 : ∀ t, win0_2.index t = ![0, 0] := by decide +kernel
theorem index_3 : ∀ t, win0_3.index t = ![0, 0] := by decide +kernel
theorem index_4 : ∀ t, win0_4.index t = ![0, 0] := by decide +kernel
theorem index_5 : ∀ t, win0_5.index t = ![0, 0] := by decide +kernel
theorem index_6 : ∀ t, win0_6.index t = ![0, 0] := by decide +kernel
theorem index_7 : ∀ t, win0_7.index t = ![0, 0] := by decide +kernel

theorem in0_at (a : Fin 2) (k : Fin 384) : in0 m c t (ix2 a k) = w1K m c (ix2 a k) := by
  unfold in0 w1K
  blk_ext [iblk, V, index_0 t]
theorem in4_at (a k : Fin 768) : in4 m c t (ix2 a k) = wqK m c (ix2 a k) := by
  unfold in4 wqK
  blk_ext [iblk, V, index_4 t]

/- The row vectors: what the host laid out, read through its window. -/
theorem host_v0 : V m c main_v0 = shapeCast S1x384 (m ((c : Thread nD τ).loc main_arg3)) rfl := by
  show StableHlo.after hostOps0 _ (Proc.devRef .tc main_v0) = _
  after_results
  rfl
theorem in1_at (k : Fin 384) : in1 m c t (ix2 0 k) = b1K m c (ix1 k) := by
  have h : in1 m c t (ix2 0 k) = (V m c main_v0 : FVec Ideal S1x384 .f32) (ix2 0 k) := by
    unfold in1
    blk_ext [iblk, index_1 t]
  rw [h, host_v0]
  unfold b1K
  pointwise

theorem host_v1 : V m c main_v1 = shapeCast S1x384 (m ((c : Thread nD τ).loc main_arg4)) rfl := by
  show StableHlo.after hostOps0 _ (Proc.devRef .tc main_v1) = _
  after_results
  rfl
theorem in2_at (k : Fin 384) : in2 m c t (ix2 0 k) = w2K m c (ix2 k 0) := by
  have h : in2 m c t (ix2 0 k) = (V m c main_v1 : FVec Ideal S1x384 .f32) (ix2 0 k) := by
    unfold in2
    blk_ext [iblk, index_2 t]
  rw [h, host_v1]
  unfold w2K
  pointwise

theorem host_v2 : V m c main_v2 = shapeCast S1x1 (m ((c : Thread nD τ).loc main_arg5)) rfl := by
  show StableHlo.after hostOps0 _ (Proc.devRef .tc main_v2) = _
  after_results
  rfl
theorem in3_at : in3 m c t (ix2 0 0) = b2K m c (ix1 0) := by
  have h : in3 m c t (ix2 0 0) = (V m c main_v2 : FVec Ideal S1x1 .f32) (ix2 0 0) := by
    unfold in3
    blk_ext [iblk, index_3 t]
  rw [h, host_v2]
  unfold b2K
  pointwise

theorem host_v3 : V m c main_v3 = shapeCast S1x768 (m ((c : Thread nD τ).loc main_arg7)) rfl := by
  show StableHlo.after hostOps0 _ (Proc.devRef .tc main_v3) = _
  after_results
  rfl
theorem in5_at (k : Fin 768) : in5 m c t (ix2 0 k) = bqK m c (ix1 k) := by
  have h : in5 m c t (ix2 0 k) = (V m c main_v3 : FVec Ideal S1x768 .f32) (ix2 0 k) := by
    unfold in5
    blk_ext [iblk, index_5 t]
  rw [h, host_v3]
  unfold bqK
  pointwise

theorem host_v4 : V m c main_v4 = shapeCast S1x768 (m ((c : Thread nD τ).loc main_arg8)) rfl := by
  show StableHlo.after hostOps0 _ (Proc.devRef .tc main_v4) = _
  after_results
  rfl
theorem in6_at (k : Fin 768) : in6 m c t (ix2 0 k) = gammaK m c (ix1 k) := by
  have h : in6 m c t (ix2 0 k) = (V m c main_v4 : FVec Ideal S1x768 .f32) (ix2 0 k) := by
    unfold in6
    blk_ext [iblk, index_6 t]
  rw [h, host_v4]
  unfold gammaK
  pointwise

theorem host_v5 : V m c main_v5 = shapeCast S1x768 (m ((c : Thread nD τ).loc main_arg9)) rfl := by
  show StableHlo.after hostOps0 _ (Proc.devRef .tc main_v5) = _
  after_results
  rfl
theorem in7_at (k : Fin 768) : in7 m c t (ix2 0 k) = betaK m c (ix1 k) := by
  have h : in7 m c t (ix2 0 k) = (V m c main_v5 : FVec Ideal S1x768 .f32) (ix2 0 k) := by
    unfold in7
    blk_ext [iblk, index_7 t]
  rw [h, host_v5]
  unfold betaK
  pointwise

theorem held_hidden : (V m c main_arg0 : FVec Ideal S2x8192x768 .f32) = hiddenK m c := V_main_arg0 m c

end Cert.Diffusion
-- ==== Proof.Spec.lean ====
/- The diffusion over the reals, one sequence at a time: three explicit steps of the weighted Laplacian of the window
   graph, the normalisation of the result and its energy. A row's features are indexed by `Fin 768`; the 8192 rows by
   natural numbers. -/
module

public import Idealize.ShloMosaic.PureOps.Ideal

@[expose] public section

noncomputable section

namespace Cert.Diffusion

open Idealize.ShloMosaic

/-- A sequence moved up by `r` rows, zero past its last row, -/
def up (r : ℕ) (f : ℕ → ℝ) (i : ℕ) : ℝ := if i + r < 8192 then f (i + r) else 0
/-- and moved down by `r` rows, zero before its first. -/
def dn (r : ℕ) (f : ℕ → ℝ) (i : ℕ) : ℝ := if r ≤ i then f (i - r) else 0

/-! ## The weights -/

/-- The step size, the least degree (and the least norm), the offset of the weights and of the variance, and the
    largest weight, as the words of the program name them. -/
def eta : EReal := Ideal.ofBits .f32 0x3DCCCCCD#32
def eps6 : EReal := Ideal.ofBits .f32 0x358637BD#32
def eps5 : EReal := Ideal.ofBits .f32 0x3727C5AC#32
def ten : EReal := Ideal.ofBits .f32 0x41200000#32

/-- The edge network's hidden layer before its activation: an edge's length `d` and cosine `c`, weighted. -/
def preOf (u w b1 : Fin 384 → EReal) (d c : EReal) (k : Fin 384) : EReal := (d * u k + c * w k) + b1 k
/-- The edge network's output: the hidden layer through the exact Gaussian error unit, weighted. -/
def outOf (u w b1 w2 : Fin 384 → EReal) (b2 : EReal) (d c : EReal) : EReal :=
  (∑ k : Fin 384, ((Ideal.ofBits .f32 0x3F000000#32 * preOf u w b1 d c k)
      * (Ideal.ofBits .f32 0x3F800000#32 + Ideal.erf (preOf u w b1 d c k * Ideal.ofBits .f32 0x3F3504F3#32))) * w2 k) + b2
/-- The softplus of a number, offset and cut off. -/
def softCut (z : EReal) : EReal :=
  min ((Ideal.log1p (Ideal.exp (0 - max z (-z))) + max z 0) + eps5) ten

section Row
variable (x : ℕ → Fin 768 → ℝ) (net : ℝ → ℝ → ℝ)

/-- The length of a row, kept off zero, -/
def norm (i : ℕ) : ℝ := max (√(∑ c, x i c * x i c)) eps6.toReal
/-- the distance of row `i` from row `i + r`, -/
def dist (r i : ℕ) : ℝ := √(∑ c, (x i c - x (i + r) c) * (x i c - x (i + r) c))
/-- and the cosine of their angle. -/
def cosine (r i : ℕ) : ℝ := (∑ c, x i c * x (i + r) c) / (norm x i * norm x (i + r))
/-- The weight of the edge from row `i` to row `i + r`, -/
def mu (r i : ℕ) : ℝ := net (dist x r i) (cosine x r i)

end Row

section Graph
variable (m : ℕ → ℕ → ℝ) (q : ℕ → Fin 768 → ℝ)

/-- and the same with zero where there is no such edge. -/
def wt (r i : ℕ) : ℝ := if i + r < 8192 then m r i else 0
/-- The degree of a row, -/
def deg (i : ℕ) : ℝ := ((wt m 1 i + dn 1 (wt m 1) i) + wt m 2 i) + dn 2 (wt m 2) i
/-- and the reciprocal of its root. -/
def inv (i : ℕ) : ℝ := (√(max (deg m i) eps6.toReal))⁻¹

/-- What edge `i`, `i + r` carries of the state `s`: the difference along it, weighted and normalised. -/
def flow (s : ℕ → ℝ) (r i : ℕ) : ℝ := (m r i * (s i - s (i + r))) * (inv m i * inv m (i + r))
/-- The Laplacian of the state: the flow out of a row less the flow into it. -/
def lap (s : ℕ → ℝ) (i : ℕ) : ℝ :=
  ((if i + 1 < 8192 then flow m s 1 i else 0) + (if i + 2 < 8192 then flow m s 2 i else 0))
    + ((if 1 ≤ i then -flow m s 1 (i - 1) else 0) + (if 2 ≤ i then -flow m s 2 (i - 2) else 0))
/-- One step of the diffusion. -/
def step (s : ℕ → Fin 768 → ℝ) (i : ℕ) (c : Fin 768) : ℝ :=
  s i c - eta.toReal * (lap m (fun j => s j c) i - q i c)

/-- The coefficient of the edge `i`, `i + r` in one step. -/
def coef (r i : ℕ) : ℝ := ((eta.toReal * wt m r i) * inv m i) * up r (inv m) i
/-- The coefficient of the row itself. -/
def self (i : ℕ) : ℝ := 1 - (((coef m 1 i + dn 1 (coef m 1) i) + coef m 2 i) + dn 2 (coef m 2) i)

/-- A step written with a coefficient for each of the five rows it reads. -/
theorem step_eq (s : ℕ → Fin 768 → ℝ) (i : ℕ) (hi : i < 8192) (c : Fin 768) :
    step m q s i c =
      ((((eta.toReal * q i c + self m i * s i c) + coef m 1 i * up 1 (fun j => s j c) i)
        + dn 1 (coef m 1) i * dn 1 (fun j => s j c) i) + coef m 2 i * up 2 (fun j => s j c) i)
        + dn 2 (coef m 2) i * dn 2 (fun j => s j c) i := by
  by_cases a1 : i + 1 < 8192 <;> by_cases a2 : i + 2 < 8192 <;> by_cases b1 : 1 ≤ i <;> by_cases b2 : 2 ≤ i <;>
    first
    | omega
    | (have e1 : 1 ≤ i → i - 1 + 1 = i := by omega
       have e2 : 2 ≤ i → i - 2 + 2 = i := by omega
       simp only [step, lap, flow, self, coef, wt, up, dn, a1, a2, b1, b2, if_true, if_false, e1 (by omega), hi,
         e2 (by omega)]
       ring)
    | (have e1 : 1 ≤ i → i - 1 + 1 = i := by omega
       simp only [step, lap, flow, self, coef, wt, up, dn, a1, a2, b1, b2, if_true, if_false, e1 (by omega), hi]
       ring)
    | (simp only [step, lap, flow, self, coef, wt, up, dn, a1, a2, b1, b2, if_true, if_false]
       ring)

/-- The state after three steps. -/
def state (x : ℕ → Fin 768 → ℝ) : ℕ → Fin 768 → ℝ := step m q (step m q (step m q x))

end Graph

/-! ## The results -/

section Norm
variable (v : Fin 768 → ℝ)

/-- The mean of a row, -/
def mean : ℝ := (∑ c, v c) / 768
/-- its variance, -/
def var : ℝ := (∑ c, (v c - mean v) * (v c - mean v)) / 768
/-- and its normalised entries. -/
def normed (c : Fin 768) : ℝ := (v c - mean v) * (√(var v + eps5.toReal))⁻¹

end Norm

/-- The squared difference of the state along the edge `i`, `i + r`. -/
def sq (s : ℕ → Fin 768 → ℝ) (r i : ℕ) : ℝ := ∑ c, (s i c - s (i + r) c) * (s i c - s (i + r) c)
/-- What the edges whose lower row is `i` add to twice the energy. -/
def part (m : ℕ → ℕ → ℝ) (s : ℕ → Fin 768 → ℝ) (i : ℕ) : ℝ := wt m 1 i * sq s 1 i + wt m 2 i * sq s 2 i
/-- The energy of a state. -/
def energy (m : ℕ → ℕ → ℝ) (s : ℕ → Fin 768 → ℝ) : ℝ := (1 / 2) * ∑ i ∈ Finset.range 8192, part m s i

end Cert.Diffusion

end
-- ==== Proof.Window.lean ====
/- Windows of a sequence. The kernel works on 1056 rows at a time, from row `s` of the sequence on. Each operation of its
   body keeps most of the window's rows equal to the sequence the operation makes of the whole: the rows that are not
   are those close to an end of the window that is not an end of the sequence. -/
module

public import proofs.«01_k».proof.Proof.Spec
public import Idealize.ShloMosaic.Lib.Pointwise
public import Idealize.ShloMosaic.Lib.Pointwise.IndexVar

@[expose] public section

set_option maxRecDepth 16384

noncomputable section

namespace Cert.Diffusion

open Idealize.ShloMosaic

/-- The window `X` from row `s` on shows the sequence `f`, but perhaps for `a` rows at its start, unless the sequence
    starts there, and for `b` rows at its end, unless the sequence ends there. -/
def Shows (s : ℕ) {n : ℕ} (X : FVec Ideal ⟨2, ![1056, n]⟩ .f32) (f : ℕ → Fin n → ℝ) (a b : ℕ) : Prop :=
  ∀ (p : Fin 1056) (c : Fin n), (s = 0 ∨ a ≤ p.val) → (s = 7136 ∨ p.val + b < 1056) → X (ix2 p c) = ((f (s + p.val) c : ℝ) : EReal)

section Ops
variable {s n : ℕ} {X Y : FVec Ideal ⟨2, ![1056, n]⟩ .f32} {f g : ℕ → Fin n → ℝ} {a b : ℕ}

/-- More rows may be left out. -/
theorem Shows.le {a' b' : ℕ} (h : Shows s X f a b) (ha : a ≤ a') (hb : b ≤ b') : Shows s X f a' b' :=
  fun p c h1 h2 => h p c (h1.imp id (by omega)) (h2.imp id (by omega))

/-- Only the sequence's 8192 rows count. -/
theorem Shows.congr (hs : s ≤ 7136) (h : Shows s X f a b) (e : ∀ i < 8192, ∀ c, f i c = g i c) : Shows s X g a b := by
  intro p c h1 h2
  have := p.isLt
  rw [h p c h1 h2, e _ (by omega)]

/-- Sums, -/
theorem Shows.add (hX : Shows s X f a b) (hY : Shows s Y g a b) : Shows s (addf X Y) (fun i c => f i c + g i c) a b := by
  intro p c h1 h2
  show X (ix2 p c) + Y (ix2 p c) = _
  rw [hX p c h1 h2, hY p c h1 h2, EReal.coe_add]
/-- differences -/
theorem Shows.sub (hX : Shows s X f a b) (hY : Shows s Y g a b) : Shows s (subf X Y) (fun i c => f i c - g i c) a b := by
  intro p c h1 h2
  show X (ix2 p c) - Y (ix2 p c) = _
  rw [hX p c h1 h2, hY p c h1 h2, EReal.coe_sub]
/-- and products of windows. -/
theorem Shows.mul (hX : Shows s X f a b) (hY : Shows s Y g a b) : Shows s (mulf X Y) (fun i c => f i c * g i c) a b := by
  intro p c h1 h2
  show X (ix2 p c) * Y (ix2 p c) = _
  rw [hX p c h1 h2, hY p c h1 h2, EReal.coe_mul]
/-- The larger of two windows. -/
theorem Shows.max (hX : Shows s X f a b) (hY : Shows s Y g a b) :
    Shows s (maximumf X Y) (fun i c => Max.max (f i c) (g i c)) a b := by
  intro p c h1 h2
  show Max.max (X (ix2 p c)) (Y (ix2 p c)) = _
  rw [hX p c h1 h2, hY p c h1 h2]
  exact (EReal.coe_strictMono.monotone.map_max).symm

/-- A constant. -/
theorem Shows.const {w : BitVec 32} {r : ℝ} (h : Ideal.ofBits .f32 w = (r : EReal)) :
    Shows s (broadcast ⟨2, ![1056, n]⟩ (Scalar.ofBits (F := Ideal) .f32 w)) (fun _ _ => r) a b :=
  fun _ _ _ _ => h

/-- Moved up by one row, -/
theorem Shows.up1 (hs : s ≤ 7136) (hX : Shows s X f a b) {h : Shape.Slices (⟨2, ![1056, n]⟩ : Shape) ![1, 0] ⟨2, ![1055, n]⟩}
    {z : FVec Ideal ⟨2, ![1, n]⟩ .f32} (hz : z = broadcast ⟨2, ![1, n]⟩ (Scalar.ofBits (F := Ideal) .f32 0x00000000#32))
    {hc : Shape.Concatenates [(⟨2, ![1055, n]⟩ : Shape), (⟨2, ![1, n]⟩ : Shape)] (⟨2, ![1056, n]⟩ : Shape) 0} :
    Shows s (concatenate ⟨2, ![1056, n]⟩ 0 [⟨⟨2, ![1055, n]⟩, extractStridedSlice ⟨2, ![1055, n]⟩ ![1, 0] X h⟩, ⟨⟨2, ![1, n]⟩, z⟩] hc)
      (fun i c => up 1 (fun j => f j c) i) a (b + 1) := by
  subst hz
  intro p c h1 h2
  have hp := p.isLt
  pointwise
  by_cases hl : p.val < 1055
  · rw [dif_pos hl, hX _ c (h1.imp id fun h => by show a ≤ 1 + p.val; omega) (h2.imp id fun h => by show 1 + p.val + b < 1056; omega)]
    simp only [up]
    rw [if_pos (by omega)]
    rw [show s + (1 + p.val) = s + p.val + 1 by omega]
  · rw [dif_neg hl]
    simp only [up]
    rw [if_neg (by omega), EReal.coe_zero]
/-- down by one row, -/
theorem Shows.dn1 (hs : s ≤ 7136) (hX : Shows s X f a b) {h : Shape.Slices (⟨2, ![1056, n]⟩ : Shape) ![0, 0] ⟨2, ![1055, n]⟩}
    {z : FVec Ideal ⟨2, ![1, n]⟩ .f32} (hz : z = broadcast ⟨2, ![1, n]⟩ (Scalar.ofBits (F := Ideal) .f32 0x00000000#32))
    {hc : Shape.Concatenates [(⟨2, ![1, n]⟩ : Shape), (⟨2, ![1055, n]⟩ : Shape)] (⟨2, ![1056, n]⟩ : Shape) 0} :
    Shows s (concatenate ⟨2, ![1056, n]⟩ 0 [⟨⟨2, ![1, n]⟩, z⟩, ⟨⟨2, ![1055, n]⟩, extractStridedSlice ⟨2, ![1055, n]⟩ ![0, 0] X h⟩] hc)
      (fun i c => dn 1 (fun j => f j c) i) (a + 1) b := by
  subst hz
  intro p c h1 h2
  have hp := p.isLt
  pointwise
  by_cases hl : p.val < 1
  · rw [dif_pos hl]
    simp only [dn]
    rw [if_neg (by omega), EReal.coe_zero]
  · rw [dif_neg hl]
    rw [hX _ c (h1.imp id fun h => by show a ≤ p.val - 1; omega) (h2.imp id fun h => by show p.val - 1 + b < 1056; omega)]
    simp only [dn]
    rw [if_pos (by omega)]
    congr 3; omega
/-- up by two rows, -/
theorem Shows.up2 (hs : s ≤ 7136) (hX : Shows s X f a b) {h : Shape.Slices (⟨2, ![1056, n]⟩ : Shape) ![2, 0] ⟨2, ![1054, n]⟩}
    {z : FVec Ideal ⟨2, ![2, n]⟩ .f32} (hz : z = broadcast ⟨2, ![2, n]⟩ (Scalar.ofBits (F := Ideal) .f32 0x00000000#32))
    {hc : Shape.Concatenates [(⟨2, ![1054, n]⟩ : Shape), (⟨2, ![2, n]⟩ : Shape)] (⟨2, ![1056, n]⟩ : Shape) 0} :
    Shows s (concatenate ⟨2, ![1056, n]⟩ 0 [⟨⟨2, ![1054, n]⟩, extractStridedSlice ⟨2, ![1054, n]⟩ ![2, 0] X h⟩, ⟨⟨2, ![2, n]⟩, z⟩] hc)
      (fun i c => up 2 (fun j => f j c) i) a (b + 2) := by
  subst hz
  intro p c h1 h2
  have hp := p.isLt
  pointwise
  by_cases hl : p.val < 1054
  · rw [dif_pos hl, hX _ c (h1.imp id fun h => by show a ≤ 2 + p.val; omega) (h2.imp id fun h => by show 2 + p.val + b < 1056; omega)]
    simp only [up]
    rw [if_pos (by omega)]
    rw [show s + (2 + p.val) = s + p.val + 2 by omega]
  · rw [dif_neg hl]
    simp only [up]
    rw [if_neg (by omega), EReal.coe_zero]
/-- and down by two rows. -/
theorem Shows.dn2 (hs : s ≤ 7136) (hX : Shows s X f a b) {h : Shape.Slices (⟨2, ![1056, n]⟩ : Shape) ![0, 0] ⟨2, ![1054, n]⟩}
    {z : FVec Ideal ⟨2, ![2, n]⟩ .f32} (hz : z = broadcast ⟨2, ![2, n]⟩ (Scalar.ofBits (F := Ideal) .f32 0x00000000#32))
    {hc : Shape.Concatenates [(⟨2, ![2, n]⟩ : Shape), (⟨2, ![1054, n]⟩ : Shape)] (⟨2, ![1056, n]⟩ : Shape) 0} :
    Shows s (concatenate ⟨2, ![1056, n]⟩ 0 [⟨⟨2, ![2, n]⟩, z⟩, ⟨⟨2, ![1054, n]⟩, extractStridedSlice ⟨2, ![1054, n]⟩ ![0, 0] X h⟩] hc)
      (fun i c => dn 2 (fun j => f j c) i) (a + 2) b := by
  subst hz
  intro p c h1 h2
  have hp := p.isLt
  pointwise
  by_cases hl : p.val < 2
  · rw [dif_pos hl]
    simp only [dn]
    rw [if_neg (by omega), EReal.coe_zero]
  · rw [dif_neg hl]
    rw [hX _ c (h1.imp id fun h => by show a ≤ p.val - 2; omega) (h2.imp id fun h => by show p.val - 2 + b < 1056; omega)]
    simp only [dn]
    rw [if_pos (by omega)]
    congr 3; omega

/-- A column beside every feature. -/
theorem Shows.spread {X : FVec Ideal ⟨2, ![1056, 1]⟩ .f32} {f : ℕ → Fin 1 → ℝ}
    (hX : Shows s X f a b) {h : Shape.Broadcasts (⟨2, ![1056, 1]⟩ : Shape) (⟨2, ![1056, 768]⟩ : Shape)} :
    Shows s (broadcastTo ⟨2, ![1056, 768]⟩ X h) (fun i _ => f i 0) a b := by
  intro p c h1 h2
  pointwise
  exact hX p 0 h1 h2

/-- A root of what is not negative. -/
theorem Shows.sqrt (hX : Shows s X f a b) (h0 : ∀ i c, 0 ≤ f i c) : Shows s (Idealize.ShloMosaic.sqrt X) (fun i c => √(f i c)) a b := by
  intro p c h1 h2
  show Ideal.sqrt (X (ix2 p c)) = _
  rw [hX p c h1 h2]
  exact if_neg (not_lt.2 (h0 _ _))

/-- The reciprocal of a root of what is positive. -/
theorem Shows.rsqrt (hX : Shows s X f a b) (h0 : ∀ i c, 0 < f i c) : Shows s (Idealize.ShloMosaic.rsqrt X) (fun i c => (√(f i c))⁻¹) a b := by
  intro p c h1 h2
  show Ideal.rsqrt (X (ix2 p c)) = _
  rw [hX p c h1 h2]
  exact (if_neg (not_lt.2 (h0 _ _).le)).trans (if_neg (h0 _ _).ne')

end Ops

/-- The zero of the program, -/
theorem zero_word : Ideal.ofBits .f32 0x00000000#32 = ((0 : ℝ) : EReal) := Ideal.ofBits_zero_f32
/-- its one, -/
theorem one_word : Ideal.ofBits .f32 0x3F800000#32 = ((1 : ℝ) : EReal) := Ideal.ofBits_one_f32
/-- its half, -/
theorem half_word : Ideal.ofBits .f32 0x3F000000#32 = ((1 / 2 : ℝ) : EReal) := by
  simp [Ideal.ofBits, Ideal.ieee, -EReal.coe_mul]; norm_num
/-- its two, -/
theorem two_word : Ideal.ofBits .f32 0x40000000#32 = ((2 : ℝ) : EReal) := by
  simp [Ideal.ofBits, Ideal.ieee, -EReal.coe_mul]; norm_num
/-- the number of features, -/
theorem width_word : Ideal.ofBits .f32 0x44400000#32 = ((768 : ℝ) : EReal) := by
  simp [Ideal.ofBits, Ideal.ieee, -EReal.coe_mul]; norm_num
/-- the largest weight, -/
theorem ten_eq : ten = ((10 : ℝ) : EReal) := by
  simp [ten, Ideal.ofBits, Ideal.ieee, -EReal.coe_mul]; norm_num
/-- the exponent of the reference's degree, -/
theorem minus_half_word : Ideal.ofBits .f32 0xBF000000#32 = ((-(1 / 2) : ℝ) : EReal) := by
  simp [Ideal.ofBits, Ideal.ieee, -EReal.coe_mul]; norm_num
/-- the step size, -/
theorem eta_eq : eta = ((13421773 / 2 ^ 27 : ℝ) : EReal) := by
  simp [eta, Ideal.ofBits, Ideal.ieee, -EReal.coe_mul]; norm_num
/-- and the two small offsets are real numbers. -/
theorem eps5_eq : eps5 = ((10995116 / 2 ^ 40 : ℝ) : EReal) := by
  simp [eps5, Ideal.ofBits, Ideal.ieee, -EReal.coe_mul]; norm_num
theorem eps6_eq : eps6 = ((8796093 / 2 ^ 43 : ℝ) : EReal) := by
  simp [eps6, Ideal.ofBits, Ideal.ieee, -EReal.coe_mul]; norm_num

theorem eta_real : eta = (eta.toReal : EReal) := by rw [eta_eq]; rfl
theorem eps5_real : eps5 = (eps5.toReal : EReal) := by rw [eps5_eq]; rfl
theorem eps6_real : eps6 = (eps6.toReal : EReal) := by rw [eps6_eq]; rfl
/-- The offsets are positive. -/
theorem eps5_pos : 0 < eps5.toReal := by rw [eps5_eq, EReal.toReal_coe]; norm_num
theorem eps6_pos : 0 < eps6.toReal := by rw [eps6_eq, EReal.toReal_coe]; norm_num

end Cert.Diffusion

end
-- ==== Proof.EdgeWeights.lean ====
/- The edge weights of a window: what the kernel's body computes for the edges to the next row and to the row after the
   next, as the weights of the whole sequence. -/
module

public import proofs.«01_k».proof.Proof.Window
public import proofs.«01_k».proof.Proof.Gen.KernelIdeal
public import proofs.«01_k».proof.Proof.Gen.KernelIdeal.Skeleton

@[expose] public section

set_option maxRecDepth 16384

noncomputable section

namespace Cert.Diffusion

open Idealize.ShloMosaic Cert.KernelIdeal Cert.KernelIdeal.Gen

/-- A finite sum of real numbers is their sum as extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A cut-off softplus is a real number, whatever it is taken of. -/
theorem softCut_real (z : EReal) : softCut z = ((softCut z).toReal : EReal) := by
  suffices h : ∃ r : ℝ, softCut z = (r : EReal) by obtain ⟨r, hr⟩ := h; rw [hr, EReal.toReal_coe]
  have hmin : ∀ r t : ℝ, ∃ u : ℝ, min (r : EReal) (t : EReal) = u := fun r t =>
    ⟨min r t, (EReal.coe_strictMono.monotone.map_min).symm⟩
  have hlog : ∀ e : ℝ, 0 ≤ e → Ideal.log1p (e : EReal) = (Real.log (1 + e) : EReal) := fun e he => by
    show Ideal.log ((1 : EReal) + e) = _
    rw [← EReal.coe_one, ← EReal.coe_add, Ideal.log_coe, if_neg (by linarith)]
  have hfin : ∀ y : ℝ, ∃ u : ℝ, softCut (y : EReal) = u := fun y => by
    unfold softCut
    rw [ten_eq, eps5_eq, ← EReal.coe_neg, ← EReal.coe_zero, ← EReal.coe_strictMono.monotone.map_max,
      ← EReal.coe_strictMono.monotone.map_max, ← EReal.coe_sub, Ideal.exp_coe, hlog _ (Real.exp_pos _).le, ← EReal.coe_add,
      ← EReal.coe_add]
    exact hmin _ _
  have habs : (0 : EReal) - ⊤ = ⊥ := rfl
  have hexp : Ideal.log1p (Ideal.exp ⊥) = 0 := by
    rw [Ideal.exp_bot, ← EReal.coe_zero, hlog 0 le_rfl, add_zero, Real.log_one]
  induction z with
  | bot =>
    unfold softCut
    rw [EReal.neg_bot, max_eq_right bot_le, max_eq_right bot_le, habs, hexp, ten_eq, eps5_eq, zero_add, zero_add]
    exact hmin _ _
  | top =>
    unfold softCut
    rw [EReal.neg_top, max_eq_left bot_le, max_eq_left le_top, habs, hexp, ten_eq, eps5_eq, zero_add]
    exact ⟨10, min_eq_right (by rw [EReal.top_add_coe]; exact le_top)⟩
  | coe z => exact hfin z

/-- The sum of each row. -/
theorem Shows.sum {s : ℕ} {X : FVec Ideal S1056x768 .f32} {f : ℕ → Fin 768 → ℝ} {a b : ℕ} (hX : Shows s X f a b)
    {h : S1056x768.Reduces [1] S1056} {h' : S1056.ShapeCasts S1056x1} :
    Shows s (n := 1) (shapeCast S1056x1 (multiReduction .add [1] S1056 X 0x00000000#32 h (.inl rfl) rfl) h')
      (fun i _ => ∑ c, f i c) a b := by
  intro p c h1 h2
  pointwise
  rw [coe_sum]
  exact Finset.sum_congr rfl fun k _ => hX p k h1 h2

section Lengths
variable {s : ℕ} {X : FVec Ideal S1056x768 .f32} {x : ℕ → Fin 768 → ℝ}

/-- The squared length of each row, -/
theorem squares (hX : Shows s X x 0 0) : Shows s (n := 1) (k0_pay9 X) (fun i _ => ∑ c, x i c * x i c) 0 0 :=
  (hX.mul hX).sum
/-- and its length, kept off zero. -/
theorem norms (hX : Shows s X x 0 0) : Shows s (n := 1) (k0_pay10 X) (fun i _ => norm x i) 0 0 :=
  ((squares hX).sqrt fun i _ => Finset.sum_nonneg fun c _ => mul_self_nonneg _).max (Shows.const eps6_real)

theorem norm_pos (x : ℕ → Fin 768 → ℝ) (i : ℕ) : 0 < norm x i := lt_max_of_lt_right eps6_pos

/-- The squared distance of two rows from their squared lengths and their product. -/
theorem dist_eq (v w : Fin 768 → ℝ) :
    max (((∑ c, v c * v c) + ∑ c, w c * w c) - 2 * ∑ c, v c * w c) 0 = ∑ c, (v c - w c) * (v c - w c) := by
  have e : ∑ c, (v c - w c) * (v c - w c) = ((∑ c, v c * v c) + ∑ c, w c * w c) - 2 * ∑ c, v c * w c := by
    rw [Finset.mul_sum, ← Finset.sum_add_distrib, ← Finset.sum_sub_distrib]
    exact Finset.sum_congr rfl fun c _ => by ring
  rw [← e]
  exact max_eq_left (Finset.sum_nonneg fun c _ => mul_self_nonneg _)

/-- A length from its columns, at a row that has an edge to row `r` on. -/
theorem dist_at (hs : s ≤ 7136) {r : ℕ} {n u d : FVec Ideal S1056x1 .f32} {p : Fin 1056} (hp : p.val + r < 1056)
    (hn : Shows s (n := 1) n (fun i _ => ∑ c, x i c * x i c) 0 0)
    (hu : Shows s (n := 1) u (fun i _ => up r (fun j => ∑ c, x j c * x j c) i) 0 r)
    (hd : Shows s (n := 1) d (fun i _ => ∑ c, x i c * up r (fun j => x j c) i) 0 r) :
    Ideal.sqrt (max ((n (ix2 p 0) + u (ix2 p 0)) - Ideal.ofBits .f32 0x40000000#32 * d (ix2 p 0)) (Ideal.ofBits .f32 0x00000000#32))
      = ((dist x r (s + p.val) : ℝ) : EReal) := by
  have hl : s + p.val + r < 8192 := by omega
  rw [hn p 0 (.inr (by omega)) (.inr (by omega)), hu p 0 (.inr (by omega)) (.inr (by omega)), hd p 0 (.inr (by omega)) (.inr (by omega)),
    two_word, zero_word]
  simp only [up, if_pos hl]
  rw [← EReal.coe_mul, ← EReal.coe_add, ← EReal.coe_sub, ← EReal.coe_strictMono.monotone.map_max, dist_eq]
  exact if_neg (not_lt.2 (Finset.sum_nonneg fun c _ => mul_self_nonneg _))

/-- A cosine from its columns, at a row that has an edge to row `r` on. -/
theorem cosine_at (hs : s ≤ 7136) {r : ℕ} {n u d : FVec Ideal S1056x1 .f32} {p : Fin 1056} (hp : p.val + r < 1056)
    (hn : Shows s (n := 1) n (fun i _ => norm x i) 0 0)
    (hu : Shows s (n := 1) u (fun i _ => up r (norm x) i) 0 r)
    (hd : Shows s (n := 1) d (fun i _ => ∑ c, x i c * up r (fun j => x j c) i) 0 r) :
    Ideal.div (d (ix2 p 0)) (n (ix2 p 0) * u (ix2 p 0)) = ((cosine x r (s + p.val) : ℝ) : EReal) := by
  have hl : s + p.val + r < 8192 := by omega
  rw [hn p 0 (.inr (by omega)) (.inr (by omega)), hu p 0 (.inr (by omega)) (.inr (by omega)), hd p 0 (.inr (by omega)) (.inr (by omega))]
  simp only [up, if_pos hl]
  rw [← EReal.coe_mul]
  have h0 : norm x (s + p.val) * norm x (s + p.val + r) ≠ 0 := (mul_pos (norm_pos x _) (norm_pos x _)).ne'
  rw [Ideal.div, if_neg (by exact_mod_cast h0), ← EReal.coe_inv, ← EReal.coe_mul]
  rfl

end Lengths

section Weights
variable {s : ℕ} {X : FVec Ideal S1056x768 .f32} {x : ℕ → Fin 768 → ℝ} (u w b1 w2 : FVec Ideal S1x384 .f32) (b2 : FVec Ideal S1x1 .f32)

/-- The weight that the edge network gives an edge of length `d` and cosine `c`. -/
def netOf (u w b1 w2 : Fin 384 → EReal) (b2 : EReal) (d c : ℝ) : ℝ := (softCut (outOf u w b1 w2 b2 d c)).toReal

/-- The entries of a row vector. -/
def row {n : ℕ} (v : FVec Ideal ⟨2, ![1, n]⟩ .f32) (k : Fin n) : EReal := v (ix2 0 k)

/-- The hidden layer for the edges to the next row. -/
theorem hidden_at (hs : s ≤ 7136) (hX : Shows s X x 0 0) {p : Fin 1056} (hp : p.val + 1 < 1056) (k : Fin 384) :
    k0_pay11 X u w b1 (ix2 p k)
      = preOf (row u) (row w) (row b1) (dist x 1 (s + p.val) : ℝ) (cosine x 1 (s + p.val) : ℝ) k := by
  rw [← dist_at hs hp (squares hX) ((squares hX).up1 hs rfl (h := slices_S1056x1_o1_0_S1055x1) (hc := concatenates_S1055x1_S1x1_S1056x1_d0))
      ((hX.le le_rfl (Nat.zero_le 1)).mul (hX.up1 hs rfl (h := slices_S1056x768_o1_0_S1055x768) (hc := concatenates_S1055x768_S1x768_S1056x768_d0))
        |>.sum (h := reduces_S1056x768_S1056) (h' := shapeCasts_S1056_S1056x1)),
    ← cosine_at hs hp (norms hX) ((norms hX).up1 hs rfl (h := slices_S1056x1_o1_0_S1055x1) (hc := concatenates_S1055x1_S1x1_S1056x1_d0))
      ((hX.le le_rfl (Nat.zero_le 1)).mul (hX.up1 hs rfl (h := slices_S1056x768_o1_0_S1055x768) (hc := concatenates_S1055x768_S1x768_S1056x768_d0))
        |>.sum (h := reduces_S1056x768_S1056) (h' := shapeCasts_S1056_S1056x1))]
  unfold k0_pay11 preOf row
  generalize k0_pay9 X = n2
  generalize k0_pay10 X = ni
  pointwise

/-- The sequence's row of a window's row, as the body counts it. -/
theorem rows_at (s : ℕ) (p : Fin 1056) (c : Fin 1) : k0_pay8 (BitVec.ofNat 32 s) (ix2 p c) = BitVec.ofNat 32 (s + p.val) := by
  unfold k0_pay8
  pointwise
  exact BitVec.ofNat_add_ofNat s p.val

/-- The choice by "not after row `n`" is the one by the row's number. -/
theorem choose_le (i n : ℕ) (hi : i < 8192) (hn : n < 8192) (a b : EReal) :
    Scalar.select (IntOp.cmpi .sle (BitVec.ofNat 32 i) (BitVec.ofNat 32 n)) a b = if i ≤ n then a else b := by
  have e : (BitVec.ofNat 32 i).sle (BitVec.ofNat 32 n) = decide (i ≤ n) := by
    rw [BitVec.sle_eq_decide, BitVec.toInt_eq_toNat_of_lt (by rw [BitVec.toNat_ofNat]; omega), BitVec.toInt_eq_toNat_of_lt (by rw [BitVec.toNat_ofNat]; omega), BitVec.toNat_ofNat, BitVec.toNat_ofNat, Nat.mod_eq_of_lt (by omega), Nat.mod_eq_of_lt (by omega)]
    simp
  show Scalar.select (BitVec.ofBool ((BitVec.ofNat 32 i).sle (BitVec.ofNat 32 n))) a b = _
  rw [e]
  by_cases h : i ≤ n <;> simp [h, Scalar.select]

/-- The network's weight for an edge, as an extended real. -/
theorem netOf_eq (u w b1 w2 : Fin 384 → EReal) (b2 : EReal) (d c : ℝ) :
    softCut (outOf u w b1 w2 b2 d c) = (netOf u w b1 w2 b2 d c : EReal) := softCut_real _

/-- The weights of the edges to the next row. -/
theorem weightA (hs : s ≤ 7136) (hX : Shows s X x 0 0) :
    Shows s (n := 1) (k0_pay12 (k0_pay8 (BitVec.ofNat 32 s)) (k0_pay11 X u w b1) (FloatOps.ofBits .f32 0x3F000000#32) w2 b2)
      (fun i _ => wt (mu x (netOf (row u) (row w) (row b1) (row w2) (b2 (ix2 0 0)))) 1 i) 0 1 := by
  intro p c h1 h2
  have hp := p.isLt
  have key : k0_pay12 (k0_pay8 (BitVec.ofNat 32 s)) (k0_pay11 X u w b1) (FloatOps.ofBits .f32 0x3F000000#32) w2 b2 (ix2 p c)
      = if s + p.val ≤ 8190 then softCut ((∑ k : Fin 384, ((Ideal.ofBits .f32 0x3F000000#32 * k0_pay11 X u w b1 (ix2 p k))
          * (Ideal.ofBits .f32 0x3F800000#32 + Ideal.erf (k0_pay11 X u w b1 (ix2 p k) * Ideal.ofBits .f32 0x3F3504F3#32))) * row w2 k)
          + b2 (ix2 0 0)) else 0 := by
    rw [← choose_le _ 8190 (by omega) (by omega), ← rows_at s p c]
    generalize k0_pay11 X u w b1 = P
    generalize k0_pay8 (BitVec.ofNat 32 s) = g
    unfold k0_pay12 softCut row
    pointwise
    rfl
  rw [key]
  by_cases hl : s + p.val + 1 < 8192
  · rw [if_pos (by omega)]
    simp only [wt, if_pos hl]
    simp only [hidden_at u w b1 hs hX (show p.val + 1 < 1056 by omega)]
    exact softCut_real _
  · rw [if_neg (by omega)]
    simp only [wt, if_neg hl, EReal.coe_zero]

/-- The network's output for an edge to the row after the next. -/
theorem output_at (hs : s ≤ 7136) (hX : Shows s X x 0 0) {p : Fin 1056} (hp : p.val + 2 < 1056) :
    k0_pay15 (k0_pay10 X) (k0_pay13 X) (k0_pay14 (k0_pay9 X)) u w b1 w2 b2 (ix2 p 0)
      = outOf (row u) (row w) (row b1) (row w2) (b2 (ix2 0 0)) (dist x 2 (s + p.val) : ℝ) (cosine x 2 (s + p.val) : ℝ) := by
  rw [← dist_at hs hp (squares hX) ((squares hX).up2 hs rfl (h := slices_S1056x1_o2_0_S1054x1) (hc := concatenates_S1054x1_S2x1_S1056x1_d0))
      ((hX.le le_rfl (Nat.zero_le 2)).mul (hX.up2 hs rfl (h := slices_S1056x768_o2_0_S1054x768) (hc := concatenates_S1054x768_S2x768_S1056x768_d0))
        |>.sum (h := reduces_S1056x768_S1056) (h' := shapeCasts_S1056_S1056x1)),
    ← cosine_at hs hp (norms hX) ((norms hX).up2 hs rfl (h := slices_S1056x1_o2_0_S1054x1) (hc := concatenates_S1054x1_S2x1_S1056x1_d0))
      ((hX.le le_rfl (Nat.zero_le 2)).mul (hX.up2 hs rfl (h := slices_S1056x768_o2_0_S1054x768) (hc := concatenates_S1054x768_S2x768_S1056x768_d0))
        |>.sum (h := reduces_S1056x768_S1056) (h' := shapeCasts_S1056_S1056x1))]
  unfold k0_pay15 k0_pay14 k0_pay13 outOf preOf row
  generalize k0_pay9 X = n2
  generalize k0_pay10 X = ni
  pointwise
  rfl

/-- The weights of the edges to the row after the next. -/
theorem weightB (hs : s ≤ 7136) (hX : Shows s X x 0 0) :
    Shows s (n := 1) (k0_pay17 (k0_pay8 (BitVec.ofNat 32 s))
        (k0_pay15 (k0_pay10 X) (k0_pay13 X) (k0_pay14 (k0_pay9 X)) u w b1 w2 b2)
        (k0_pay16 (k0_pay10 X) (k0_pay13 X) (k0_pay14 (k0_pay9 X)) u w b1 w2 b2))
      (fun i _ => wt (mu x (netOf (row u) (row w) (row b1) (row w2) (b2 (ix2 0 0)))) 2 i) 0 2 := by
  intro p c h1 h2
  obtain rfl : c = 0 := Subsingleton.elim _ _
  have hp := p.isLt
  unfold k0_pay16
  have key (z : FVec Ideal S1056x1 .f32) : k0_pay17 (k0_pay8 (BitVec.ofNat 32 s)) z (absf z) (ix2 p 0)
      = if s + p.val ≤ 8189 then softCut (z (ix2 p 0)) else 0 := by
    rw [← choose_le _ 8189 (by omega) (by omega), ← rows_at s p 0]
    generalize k0_pay8 (BitVec.ofNat 32 s) = g
    unfold k0_pay17 softCut
    pointwise
    rfl
  refine (key _).trans ?_
  by_cases hl : s + p.val + 2 < 8192
  · rw [if_pos (by omega)]
    simp only [wt, if_pos hl]
    rw [output_at u w b1 w2 b2 hs hX (show p.val + 2 < 1056 by omega)]
    exact softCut_real _
  · rw [if_neg (by omega)]
    simp only [wt, if_neg hl, EReal.coe_zero]

end Weights

end Cert.Diffusion

end
-- ==== Proof.WindowSteps.lean ====
/- The three steps of a window: its coefficients, its external field and its states, as those of the whole sequence. Each
   step reads two rows on either side, so that two more rows at each end of the window stop counting. -/
module

public import proofs.«01_k».proof.Proof.EdgeWeights

@[expose] public section

set_option maxRecDepth 16384

noncomputable section

namespace Cert.Diffusion

open Idealize.ShloMosaic Cert.KernelIdeal Cert.KernelIdeal.Gen

/-- The external field: a row through the query projection. -/
def query (x : ℕ → Fin 768 → ℝ) (wq : Fin 768 → Fin 768 → ℝ) (bq : Fin 768 → ℝ) (i : ℕ) (c : Fin 768) : ℝ :=
  (∑ k, x i k * wq k c) + bq c

section Coefficients
variable {s : ℕ} (m : ℕ → ℕ → ℝ) {g : IVec S1056x1 32} {wA z az : FVec Ideal S1056x1 .f32}

/-- The reciprocal roots of the degrees. -/
theorem inverses (hs : s ≤ 7136) (hA : Shows s (n := 1) wA (fun i _ => wt m 1 i) 0 1)
    (hB : Shows s (n := 1) (k0_pay17 g z az) (fun i _ => wt m 2 i) 0 2) :
    Shows s (n := 1) (k0_pay18 g wA z az) (fun i _ => inv m i) 2 2 := by
  unfold k0_pay18
  exact (((((hA.le (by omega) (by omega)).add ((hA.dn1 hs rfl).le (by omega) (by omega))).add (hB.le (by omega) (by omega))).add
    ((hB.dn2 hs rfl).le (by omega) (by omega))).max (Shows.const eps6_real)).rsqrt fun i c => lt_max_of_lt_right eps6_pos

/-- The coefficients of the edges to the next row -/
theorem coefA (hs : s ≤ 7136) (hA : Shows s (n := 1) wA (fun i _ => wt m 1 i) 0 1)
    (hB : Shows s (n := 1) (k0_pay17 g z az) (fun i _ => wt m 2 i) 0 2) :
    Shows s (n := 1) (k0_pay19 g wA z az) (fun i _ => coef m 1 i) 2 4 := by
  have hI := inverses m hs hA hB
  unfold k0_pay19
  exact (((Shows.const eta_real).mul (hA.le (by omega) (by omega))).mul (hI.le (by omega) (by omega))).mul
    ((hI.up1 hs rfl).le (by omega) (by omega))

/-- and to the row after the next. -/
theorem coefB (hs : s ≤ 7136) (hA : Shows s (n := 1) wA (fun i _ => wt m 1 i) 0 1)
    (hB : Shows s (n := 1) (k0_pay17 g z az) (fun i _ => wt m 2 i) 0 2) :
    Shows s (n := 1) (k0_pay20 g wA z az) (fun i _ => coef m 2 i) 2 4 := by
  have hI := inverses m hs hA hB
  unfold k0_pay20
  exact (((Shows.const eta_real).mul (hB.le (by omega) (by omega))).mul (hI.le (by omega) (by omega))).mul
    ((hI.up2 hs rfl).le (by omega) (by omega))

/-- The coefficients of the edges from the row before, -/
theorem coefA' (hs : s ≤ 7136) (hA : Shows s (n := 1) wA (fun i _ => wt m 1 i) 0 1)
    (hB : Shows s (n := 1) (k0_pay17 g z az) (fun i _ => wt m 2 i) 0 2) :
    Shows s (n := 1) (k0_pay21 g wA z az) (fun i _ => dn 1 (coef m 1) i) 4 4 :=
  ((coefA m hs hA hB).dn1 hs rfl (hc := concatenates_S1x1_S1055x1_S1056x1_d0)).le (by omega) (by omega)

variable {cA cB cA' : FVec Ideal S1056x1 .f32}

/-- from two rows before, -/
theorem coefB' (hs : s ≤ 7136) (hB : Shows s (n := 1) cB (fun i _ => coef m 2 i) 2 4) :
    Shows s (n := 1) (k0_pay23 cB k0_pay22) (fun i _ => dn 2 (coef m 2) i) 4 4 :=
  hB.dn2 hs rfl (hc := concatenates_S2x1_S1054x1_S1056x1_d0)

/-- and of the row itself. -/
theorem coefO (hs : s ≤ 7136) (hA : Shows s (n := 1) cA (fun i _ => coef m 1 i) 2 4)
    (hB : Shows s (n := 1) cB (fun i _ => coef m 2 i) 2 4) (hA' : Shows s (n := 1) cA' (fun i _ => dn 1 (coef m 1) i) 4 4) :
    Shows s (n := 1) (k0_pay24 cA cB cA' k0_pay22) (fun i _ => self m i) 4 4 := by
  unfold k0_pay24
  exact (Shows.const one_word).sub ((((hA.le (by omega) le_rfl).add hA').add (hB.le (by omega) le_rfl)).add (coefB' m hs hB))

end Coefficients

section Field
variable {s : ℕ} {v : FVec Ideal S1x1056x768 .f32} {x : ℕ → Fin 768 → ℝ} {wq : FVec Ideal S768x768 .f32}
  {bq : FVec Ideal S1x768 .f32} {Wq : Fin 768 → Fin 768 → ℝ} {Bq : Fin 768 → ℝ}

/-- The external field scaled by the step size. -/
theorem fields (hX : Shows s (k0_pay5 (F := Ideal) v) x 0 0) (hw : ∀ k c, wq (ix2 k c) = (Wq k c : EReal)) (hb : ∀ c, bq (ix2 0 c) = (Bq c : EReal)) :
    Shows s (k0_pay7 (F := Ideal) (k0_pay6 (F := Ideal) v wq bq) (FloatOps.ofBits .f32 0x3DCCCCCD#32)) (fun i c => eta.toReal * query x Wq Bq i c) 0 0 := by
  refine (Shows.const eta_real).mul ?_
  unfold k0_pay6
  generalize k0_pay5 (F := Ideal) v = X at hX ⊢
  intro p c h1 h2
  pointwise
  simp only [hX p _ h1 h2, hw, hb, query]
  rw [EReal.coe_add, coe_sum]
  simp only [EReal.coe_mul]

end Field

section Steps
variable {s : ℕ}

/-- One step of a window, from the field `F`, the coefficients of the row itself, of the rows one and two after and one
    and two before, and the state `S`. -/
def stepOf (F : FVec Ideal S1056x768 .f32) (O A B A' B' : FVec Ideal S1056x1 .f32) (S : FVec Ideal S1056x768 .f32) : FVec Ideal S1056x768 .f32 :=
  addf (addf (addf (addf (addf F
    (mulf (broadcastTo S1056x768 O broadcasts_S1056x1_S1056x768) S))
    (mulf (broadcastTo S1056x768 A broadcasts_S1056x1_S1056x768) (concatenate S1056x768 0 [⟨S1055x768, extractStridedSlice S1055x768 ![1, 0] S slices_S1056x768_o1_0_S1055x768⟩, ⟨S1x768, broadcast S1x768 (Scalar.ofBits .f32 0x00000000#32)⟩] concatenates_S1055x768_S1x768_S1056x768_d0)))
    (mulf (broadcastTo S1056x768 A' broadcasts_S1056x1_S1056x768) (concatenate S1056x768 0 [⟨S1x768, broadcast S1x768 (Scalar.ofBits .f32 0x00000000#32)⟩, ⟨S1055x768, extractStridedSlice S1055x768 ![0, 0] S slices_S1056x768_o0_0_S1055x768⟩] concatenates_S1x768_S1055x768_S1056x768_d0)))
    (mulf (broadcastTo S1056x768 B broadcasts_S1056x1_S1056x768) (concatenate S1056x768 0 [⟨S1054x768, extractStridedSlice S1054x768 ![2, 0] S slices_S1056x768_o2_0_S1054x768⟩, ⟨S2x768, broadcast S2x768 (Scalar.ofBits .f32 0x00000000#32)⟩] concatenates_S1054x768_S2x768_S1056x768_d0)))
    (mulf (broadcastTo S1056x768 B' broadcasts_S1056x1_S1056x768) (concatenate S1056x768 0 [⟨S2x768, broadcast S2x768 (Scalar.ofBits .f32 0x00000000#32)⟩, ⟨S1054x768, extractStridedSlice S1054x768 ![0, 0] S slices_S1056x768_o0_0_S1054x768⟩] concatenates_S2x768_S1054x768_S1056x768_d0))

variable {m : ℕ → ℕ → ℝ} {q st : ℕ → Fin 768 → ℝ} {F S : FVec Ideal S1056x768 .f32} {O A B A' B' : FVec Ideal S1056x1 .f32} {a b : ℕ}

/-- A window's step is the sequence's. -/
theorem steps (hs : s ≤ 7136) (ha : 2 ≤ a) (hb : 2 ≤ b) (hF : Shows s F (fun i c => eta.toReal * q i c) 0 0)
    (hO : Shows s (n := 1) O (fun i _ => self m i) 4 4)
    (hA : Shows s (n := 1) A (fun i _ => coef m 1 i) 2 4) (hB : Shows s (n := 1) B (fun i _ => coef m 2 i) 2 4)
    (hA' : Shows s (n := 1) A' (fun i _ => dn 1 (coef m 1) i) 4 4) (hB' : Shows s (n := 1) B' (fun i _ => dn 2 (coef m 2) i) 4 4)
    (hS : Shows s S st a b) : Shows s (stepOf F O A B A' B' S) (step m q st) (a + 2) (b + 2) := by
  refine Shows.congr hs (f := fun i c =>
      ((((eta.toReal * q i c + self m i * st i c) + coef m 1 i * up 1 (fun j => st j c) i)
        + dn 1 (coef m 1) i * dn 1 (fun j => st j c) i) + coef m 2 i * up 2 (fun j => st j c) i)
        + dn 2 (coef m 2) i * dn 2 (fun j => st j c) i) ?_ fun i hi c => (step_eq m q st i hi c).symm
  unfold stepOf
  exact ((((((hF.le (by omega) (by omega)).add ((hO.le (by omega) (by omega)).spread.mul (hS.le (by omega) (by omega)))).add
    ((hA.le (by omega) (by omega)).spread.mul ((hS.up1 hs rfl).le (by omega) (by omega)))).add
    ((hA'.le (by omega) (by omega)).spread.mul ((hS.dn1 hs rfl).le (by omega) (by omega)))).add
    ((hB.le (by omega) (by omega)).spread.mul ((hS.up2 hs rfl).le (by omega) (by omega)))).add
    ((hB'.le (by omega) (by omega)).spread.mul ((hS.dn2 hs rfl).le (by omega) (by omega))))

variable (F A B A')

/-- The kernel's first step -/
theorem first_step (X : FVec Ideal S1056x768 .f32) :
    k0_pay25 X F A B A' k0_pay22 = stepOf F (k0_pay24 A B A' k0_pay22) A B A' (k0_pay23 B k0_pay22) X := rfl
/-- and its other two. -/
theorem other_steps (X : FVec Ideal S1056x768 .f32) :
    k0_pay28 F A B A' (k0_pay23 B k0_pay22) (k0_pay24 A B A' k0_pay22) (k0_pay25 X F A B A' k0_pay22) (k0_pay26 X F A B A' k0_pay22) (k0_pay27 X F A B A' k0_pay22)
      = stepOf F (k0_pay24 A B A' k0_pay22) A B A' (k0_pay23 B k0_pay22)
          (stepOf F (k0_pay24 A B A' k0_pay22) A B A' (k0_pay23 B k0_pay22) (k0_pay25 X F A B A' k0_pay22)) := rfl

end Steps

end Cert.Diffusion

end
-- ==== Proof.WindowResults.lean ====
/- What a window's state leaves: the normalised rows, and the energy of the rows that the window owns. -/
module

public import proofs.«01_k».proof.Proof.WindowSteps

@[expose] public section

set_option maxRecDepth 16384

noncomputable section

namespace Cert.Diffusion

open Idealize.ShloMosaic Cert.KernelIdeal Cert.KernelIdeal.Gen

section Division
variable {s n : ℕ} {X : FVec Ideal ⟨2, ![1056, n]⟩ .f32} {f : ℕ → Fin n → ℝ} {a b : ℕ}

/-- A window divided by the number of features. -/
theorem Shows.width (hX : Shows s X f a b) :
    Shows s (divf X (broadcast ⟨2, ![1056, n]⟩ (Scalar.ofBits (F := Ideal) .f32 0x44400000#32))) (fun i c => f i c / 768) a b := by
  intro p c h1 h2
  show Ideal.div (X (ix2 p c)) (Ideal.ofBits .f32 0x44400000#32) = _
  rw [hX p c h1 h2, width_word, Ideal.div_coe (by norm_num), ← EReal.coe_mul]
  congr 1; ring

end Division

section Norm
variable {s : ℕ} {X S : FVec Ideal S1056x768 .f32} {x st : ℕ → Fin 768 → ℝ} {a b : ℕ}

/-- The rows less their means, -/
theorem centred (hX : Shows s X x a b) (hS : Shows s S st a b) :
    Shows s (k0_pay32 X S) (fun i c => (st i c + x i c) - mean (fun c => st i c + x i c)) a b := by
  unfold k0_pay32
  exact (hS.add hX).sub (hS.add hX).sum.width.spread
/-- and the reciprocal roots of their variances. -/
theorem scales (hX : Shows s X x a b) (hS : Shows s S st a b) :
    Shows s (k0_pay33 X S) (fun i _ => (√(var (fun c => st i c + x i c) + eps5.toReal))⁻¹) a b := by
  have hC := centred hX hS
  unfold k0_pay33
  exact (((hC.mul hC).sum.width.add (Shows.const eps5_real)).rsqrt fun i c =>
    add_pos_of_nonneg_of_pos (div_nonneg (Finset.sum_nonneg fun c _ => mul_self_nonneg _) (by norm_num)) eps5_pos).spread

/-- The normalised rows, scaled and shifted. -/
theorem normed_at (hX : Shows s X x a b) (hS : Shows s S st a b) (ga be : FVec Ideal S1x768 .f32) (p : Fin 1056) (c : Fin 768)
    (h1 : s = 0 ∨ a ≤ p.val) (h2 : s = 7136 ∨ p.val + b < 1056) :
    k0_pay1 (k0_pay32 X S) (k0_pay33 X S) ga be (ix2 p c)
      = (normed (fun c => st (s + p.val) c + x (s + p.val) c) c : EReal) * ga (ix2 0 c) + be (ix2 0 c) := by
  rw [normed, ← (centred hX hS).mul (scales hX hS) p c h1 h2]
  unfold k0_pay1
  generalize k0_pay32 X S = C
  generalize k0_pay33 X S = R
  pointwise

end Norm

section Energy
variable {s : ℕ} {S D : FVec Ideal S1056x768 .f32} {st : ℕ → Fin 768 → ℝ} {a b : ℕ} {m : ℕ → ℕ → ℝ}

/-- Twice the energy of the edges whose lower row is a window's row. -/
theorem parts (hs : s ≤ 7136) {wA wB eA eB : FVec Ideal S1056x1 .f32}
    (hA : Shows s (n := 1) wA (fun i _ => wt m 1 i) a b) (hB : Shows s (n := 1) wB (fun i _ => wt m 2 i) a b)
    (hE : Shows s (n := 1) eA (fun i _ => ∑ c, (st i c - up 1 (fun j => st j c) i) * (st i c - up 1 (fun j => st j c) i)) a b)
    (hE' : Shows s (n := 1) eB (fun i _ => ∑ c, (st i c - up 2 (fun j => st j c) i) * (st i c - up 2 (fun j => st j c) i)) a b) :
    Shows s (n := 1) (addf (mulf wA eA) (mulf wB eB)) (fun i _ => part m st i) a b := by
  refine ((hA.mul hE).add (hB.mul hE')).congr hs fun i hi c => ?_
  have e (r : ℕ) : wt m r i * (∑ c, (st i c - up r (fun j => st j c) i) * (st i c - up r (fun j => st j c) i)) = wt m r i * sq st r i := by
    by_cases h : i + r < 8192
    · simp only [sq, up, if_pos h]
    · simp only [wt, if_neg h, zero_mul]
  exact congrArg₂ (· + ·) (e 1) (e 2)

/-- The sum over the 1024 rows from row `o` of a window on. -/
theorem sum_own (F : ℕ → ℝ) (o : ℕ) (ho : o ≤ 32) :
    ∑ p : Fin 1056, (if o ≤ p.val ∧ p.val < o + 1024 then F p.val else 0) = ∑ r ∈ Finset.range 1024, F (o + r) := by
  rw [Fin.sum_univ_eq_sum_range (fun p => if o ≤ p ∧ p < o + 1024 then F p else 0) 1056, ← Finset.sum_filter]
  have e : (Finset.range 1056).filter (fun p => o ≤ p ∧ p < o + 1024) = Finset.Ico o (o + 1024) := by
    ext p; simp only [Finset.mem_filter, Finset.mem_range, Finset.mem_Ico]; omega
  rw [e, Finset.sum_Ico_eq_sum_range, Nat.add_sub_cancel_left]

/-- A row of the sequence is of block `k` where its number says so. -/
theorem own_word (i k : ℕ) (hi : i < 8192) (hk : k < 8) :
    IntOp.andi (IntOp.cmpi .sge (BitVec.ofNat 32 i) (Scalar.muli (BitVec.ofNat 32 k) 1024#32))
        (IntOp.cmpi .slt (BitVec.ofNat 32 i) (Scalar.addi (Scalar.muli (BitVec.ofNat 32 k) 1024#32) 1024#32))
      = BitVec.ofBool (decide (1024 * k ≤ i ∧ i < 1024 * k + 1024)) := by
  have e1 : Scalar.muli (BitVec.ofNat 32 k) 1024#32 = BitVec.ofNat 32 (1024 * k) := by
    show BitVec.ofNat 32 k * BitVec.ofNat 32 1024 = _
    rw [← BitVec.ofNat_mul, Nat.mul_comm]
  have e2 : Scalar.addi (BitVec.ofNat 32 (1024 * k)) 1024#32 = BitVec.ofNat 32 (1024 * k + 1024) :=
    (BitVec.ofNat_add _ _).symm
  have ti (n : ℕ) (hn : n < 2 ^ 31) : (BitVec.ofNat 32 n).toInt = n := by
    rw [BitVec.toInt_eq_toNat_of_lt (by rw [BitVec.toNat_ofNat]; omega), BitVec.toNat_ofNat, Nat.mod_eq_of_lt (by omega)]
  have c1 : IntOp.cmpi .sge (BitVec.ofNat 32 i) (BitVec.ofNat 32 (1024 * k)) = BitVec.ofBool (decide (1024 * k ≤ i)) := by
    show BitVec.ofBool ((BitVec.ofNat 32 (1024 * k)).sle (BitVec.ofNat 32 i)) = _
    rw [BitVec.sle_eq_decide, ti _ (by omega), ti _ (by omega)]
    congr 2; simp only [eq_iff_iff]; omega
  have c2 : IntOp.cmpi .slt (BitVec.ofNat 32 i) (BitVec.ofNat 32 (1024 * k + 1024)) = BitVec.ofBool (decide (i < 1024 * k + 1024)) := by
    show BitVec.ofBool ((BitVec.ofNat 32 i).slt (BitVec.ofNat 32 (1024 * k + 1024))) = _
    rw [BitVec.slt_eq_decide, ti _ (by omega), ti _ (by omega)]
    congr 2; simp only [eq_iff_iff]; omega
  rw [e1, e2, c1, c2]
  by_cases h1 : 1024 * k ≤ i <;> by_cases h2 : i < 1024 * k + 1024 <;> simp [h1, h2, IntOp.andi]

/-- What a grid point adds to the energy: half the parts of its own rows. -/
theorem energy_at (hs : s ≤ 7136) {wA wB eA eB : FVec Ideal S1056x1 .f32} (k : ℕ) (hk : k < 8) (o : ℕ) (ho : o ≤ 32) (hso : s + o = 1024 * k)
    (h1 : s = 0 ∨ a ≤ o) (h2 : s = 7136 ∨ o + 1024 + b ≤ 1056) (f : ℕ → ℝ)
    (hP : Shows s (n := 1) (addf (mulf wA eA) (mulf wB eB)) (fun i _ => f i) a b) (prev : FVec Ideal S1x1x1 .f32) (j : S1x8x128.Idx) :
    k0_pay31 (BitVec.ofNat 32 k) (k0_pay8 (BitVec.ofNat 32 s)) wA wB eA eB 1024#32 prev j
      = (if k = 0 then 0 else prev (ix3 0 0 0)) + (((1 / 2) * ∑ r ∈ Finset.range 1024, f (1024 * k + r) : ℝ) : EReal) := by
  have key : k0_pay31 (BitVec.ofNat 32 k) (k0_pay8 (BitVec.ofNat 32 s)) wA wB eA eB 1024#32 prev j
      = (if k = 0 then 0 else prev (ix3 0 0 0)) + Ideal.ofBits .f32 0x3F000000#32 * ∑ p : Fin 1056,
          if o ≤ p.val ∧ p.val < o + 1024 then addf (mulf wA eA) (mulf wB eB) (ix2 p 0) else 0 := by
    unfold k0_pay31
    pointwise
    congr 1
    · have e : Scalar.cmpi .eq (BitVec.ofNat 32 k) 0#32 = BitVec.ofBool (decide (k = 0)) := by
        interval_cases k <;> decide
      rw [e]
      by_cases h : k = 0 <;> simp [h, Scalar.select]
    · refine congrArg _ (Finset.sum_congr rfl fun p _ => ?_)
      have hp := p.isLt
      rw [Fin.sum_univ_one, rows_at s p 0, own_word _ k (by omega) hk]
      by_cases h : o ≤ p.val ∧ p.val < o + 1024
      · rw [if_pos h, decide_eq_true (by omega)]; rfl
      · rw [if_neg h, decide_eq_false (by omega)]; rfl
  rw [key, half_word, EReal.coe_mul, ← hso]
  refine congrArg (fun y : EReal => (if k = 0 then 0 else prev (ix3 0 0 0)) + ((1 / 2 : ℝ) : EReal) * y) ?_
  have own := sum_own (fun p => f (s + p)) o ho
  simp only [← Nat.add_assoc] at own
  rw [← own, coe_sum]
  refine Finset.sum_congr rfl fun p _ => ?_
  by_cases h : o ≤ p.val ∧ p.val < o + 1024
  · rw [if_pos h, if_pos h]
    exact hP p 0 (by omega) (by omega)
  · rw [if_neg h, if_neg h, EReal.coe_zero]

end Energy

end Cert.Diffusion

end
-- ==== Proof.KernelPoint.lean ====
/- The two blocks that a grid point leaves, in terms of the diffusion of its sequence. -/
module

public import proofs.«01_k».proof.Proof.WindowResults
public import proofs.«01_k».proof.Proof.KernelIdealBody

@[expose] public section

set_option maxRecDepth 16384

noncomputable section

namespace Cert.Diffusion

open Idealize.ShloMosaic Cert.KernelIdeal Cert.KernelIdeal.Gen Cert.KernelIdeal.Run

section Point
variable (s : ℕ) (v : FVec Ideal S1x1056x768 .f32) (u w b1 w2 : FVec Ideal S1x384 .f32) (b2 : FVec Ideal S1x1 .f32)
  (wq : FVec Ideal S768x768 .f32) (bq : FVec Ideal S1x768 .f32) {x : ℕ → Fin 768 → ℝ} {Wq : Fin 768 → Fin 768 → ℝ} {Bq : Fin 768 → ℝ}

/-- The weights of a sequence's edges under the edge network of a grid point. -/
def weights (x : ℕ → Fin 768 → ℝ) : ℕ → ℕ → ℝ := mu x (netOf (row u) (row w) (row b1) (row w2) (b2 (ix2 0 0)))

variable (hs : s ≤ 7136) (hX : Shows s (k0_pay5 (F := Ideal) v) x 0 0)
include hs hX

/-- The coefficients of a grid point. -/
theorem point_cA : Shows s (n := 1) (cA (F := Ideal) v (BitVec.ofNat 32 s) u w b1 w2 b2) (fun i _ => coef (weights u w b1 w2 b2 x) 1 i) 2 4 :=
  coefA _ hs (weightA u w b1 w2 b2 hs hX) (weightB u w b1 w2 b2 hs hX)
theorem point_cB : Shows s (n := 1) (cB (F := Ideal) v (BitVec.ofNat 32 s) u w b1 w2 b2) (fun i _ => coef (weights u w b1 w2 b2 x) 2 i) 2 4 :=
  coefB _ hs (weightA u w b1 w2 b2 hs hX) (weightB u w b1 w2 b2 hs hX)
theorem point_cA' : Shows s (n := 1) (cA' (F := Ideal) v (BitVec.ofNat 32 s) u w b1 w2 b2) (fun i _ => dn 1 (coef (weights u w b1 w2 b2 x) 1) i) 4 4 :=
  coefA' _ hs (weightA u w b1 w2 b2 hs hX) (weightB u w b1 w2 b2 hs hX)

variable (hw : ∀ k c, wq (ix2 k c) = (Wq k c : EReal)) (hb : ∀ c, bq (ix2 0 c) = (Bq c : EReal))
include hw hb

/-- The state of a grid point after three steps. -/
theorem point_state : Shows s (st3 (F := Ideal) v (BitVec.ofNat 32 s) u w b1 w2 b2 wq bq) (state (weights u w b1 w2 b2 x) (query x Wq Bq) x) 8 8 := by
  have hA := point_cA s v u w b1 w2 b2 hs hX
  have hB := point_cB s v u w b1 w2 b2 hs hX
  have hA' := point_cA' s v u w b1 w2 b2 hs hX
  have hB' := coefB' _ hs hB
  have hO := coefO _ hs hA hB hA'
  have hF := fields hX hw hb
  have e1 := steps hs le_rfl le_rfl hF hO hA hB hA' hB' (hX.le (Nat.zero_le 2) (Nat.zero_le 2))
  have e2 := steps hs (by omega) (by omega) hF hO hA hB hA' hB' e1
  have e3 := steps hs (by omega) (by omega) hF hO hA hB hA' hB' e2
  exact e3

/-- The squared differences of the state along the edges. -/
theorem point_enA : Shows s (n := 1) (enA (F := Ideal) v (BitVec.ofNat 32 s) u w b1 w2 b2 wq bq)
    (fun i _ => ∑ c, (state (weights u w b1 w2 b2 x) (query x Wq Bq) x i c - up 1 (fun j => state (weights u w b1 w2 b2 x) (query x Wq Bq) x j c) i)
      * (state (weights u w b1 w2 b2 x) (query x Wq Bq) x i c - up 1 (fun j => state (weights u w b1 w2 b2 x) (query x Wq Bq) x j c) i)) 8 10 := by
  have hS := point_state s v u w b1 w2 b2 wq bq hs hX hw hb
  have hD := (hS.le le_rfl (show 8 ≤ 10 by omega)).sub ((hS.up1 hs rfl (h := slices_S1056x768_o1_0_S1055x768) (hc := concatenates_S1055x768_S1x768_S1056x768_d0)).le le_rfl (show 8 + 1 ≤ 10 by omega))
  exact (hD.mul hD).sum
theorem point_enB : Shows s (n := 1) (enB (F := Ideal) v (BitVec.ofNat 32 s) u w b1 w2 b2 wq bq)
    (fun i _ => ∑ c, (state (weights u w b1 w2 b2 x) (query x Wq Bq) x i c - up 2 (fun j => state (weights u w b1 w2 b2 x) (query x Wq Bq) x j c) i)
      * (state (weights u w b1 w2 b2 x) (query x Wq Bq) x i c - up 2 (fun j => state (weights u w b1 w2 b2 x) (query x Wq Bq) x j c) i)) 8 10 := by
  have hS := point_state s v u w b1 w2 b2 wq bq hs hX hw hb
  have hD := (hS.le le_rfl (show 8 ≤ 10 by omega)).sub ((hS.up2 hs rfl (h := slices_S1056x768_o2_0_S1054x768) (hc := concatenates_S1054x768_S2x768_S1056x768_d0)).le le_rfl (show 8 + 2 ≤ 10 by omega))
  exact (hD.mul hD).sum

/-- The energy block of a grid point. -/
theorem point_energy (k : ℕ) (hk : k < 8) (o : ℕ) (ho : o ≤ 32) (hso : s + o = 1024 * k) (h1 : s = 0 ∨ 10 ≤ o) (h2 : s = 7136 ∨ o + 1024 + 10 ≤ 1056)
    (prev : FVec Ideal S1x1x1 .f32) (j : S1x8x128.Idx) :
    engOf (F := Ideal) v (BitVec.ofNat 32 s) u w b1 w2 b2 wq bq (BitVec.ofNat 32 k) prev j
      = (if k = 0 then 0 else prev (ix3 0 0 0)) + (((1 / 2) * ∑ r ∈ Finset.range 1024, part (weights u w b1 w2 b2 x) (state (weights u w b1 w2 b2 x) (query x Wq Bq) x) (1024 * k + r) : ℝ) : EReal) := by
  refine energy_at hs k hk o ho hso h1 h2 _ (parts hs ?_ ?_ ?_ ?_) prev j
  · exact (weightA u w b1 w2 b2 hs hX).le (by omega) (by omega)
  · exact (weightB u w b1 w2 b2 hs hX).le (by omega) (by omega)
  · exact (point_enA s v u w b1 w2 b2 wq bq hs hX hw hb).le (by omega) (by omega)
  · exact (point_enB s v u w b1 w2 b2 wq bq hs hX hw hb).le (by omega) (by omega)

/-- The normalised rows of a grid point. -/
theorem point_out (ga be : FVec Ideal S1x768 .f32) (p : Fin 1056) (c : Fin 768) (h1 : s = 0 ∨ 8 ≤ p.val) (h2 : s = 7136 ∨ p.val + 8 < 1056) :
    k0_pay1 (k0_pay32 (k0_pay5 (F := Ideal) v) (st3 (F := Ideal) v (BitVec.ofNat 32 s) u w b1 w2 b2 wq bq))
        (k0_pay33 (k0_pay5 (F := Ideal) v) (st3 (F := Ideal) v (BitVec.ofNat 32 s) u w b1 w2 b2 wq bq)) ga be (ix2 p c)
      = (normed (fun c => state (weights u w b1 w2 b2 x) (query x Wq Bq) x (s + p.val) c + x (s + p.val) c) c : EReal) * ga (ix2 0 c) + be (ix2 0 c) :=
  normed_at (hX.le (by omega) (by omega)) (point_state s v u w b1 w2 b2 wq bq hs hX hw hb) ga be p c h1 h2

end Point

/-- The block's rows start the window, -/
theorem rows_from0 (C R : FVec Ideal S1056x768 .f32) (ga be : FVec Ideal S1x768 .f32) (r : Fin 1024) (c : Fin 768) :
    k0_pay2 C R ga be (ix3 0 r c) = k0_pay1 C R ga be (ix2 ⟨r.val, by omega⟩ c) := by
  unfold k0_pay2
  generalize k0_pay1 C R ga be = V
  pointwise

/-- start sixteen rows in, -/
theorem rows_from16 (C R : FVec Ideal S1056x768 .f32) (ga be : FVec Ideal S1x768 .f32) (r : Fin 1024) (c : Fin 768) :
    k0_pay3 C R ga be (ix3 0 r c) = k0_pay1 C R ga be (ix2 ⟨16 + r.val, by omega⟩ c) := by
  unfold k0_pay3
  generalize k0_pay1 C R ga be = V
  pointwise

/-- or thirty-two rows in. -/
theorem rows_from32 (C R : FVec Ideal S1056x768 .f32) (ga be : FVec Ideal S1x768 .f32) (r : Fin 1024) (c : Fin 768) :
    k0_pay4 C R ga be (ix3 0 r c) = k0_pay1 C R ga be (ix2 ⟨32 + r.val, by omega⟩ c) := by
  unfold k0_pay4
  generalize k0_pay1 C R ga be = V
  pointwise

/-- A grid point's sequence is one of the two. -/
theorem batch_lt (t : Fin 16) : t.val / 8 < 2 := by omega

section Step
variable (h : FVec Ideal S2x8192x768 .f32) (x0 : FVec Ideal S2x384 .f32) (x1 x2 : FVec Ideal S1x384 .f32) (x3 : FVec Ideal S1x1 .f32)
  (x4 : FVec Ideal S768x768 .f32) (x5 x6 x7 : FVec Ideal S1x768 .f32) (t : Fin 16)
  {x : ℕ → Fin 768 → ℝ} {Wq : Fin 768 → Fin 768 → ℝ} {Bq : Fin 768 → ℝ}

/-- A sequence's weights under the edge network of the launch. -/
def weightsOf (x : ℕ → Fin 768 → ℝ) : ℕ → ℕ → ℝ :=
  mu x (netOf (fun k => x0 (ix2 0 k)) (fun k => x0 (ix2 1 k)) (fun k => x1 (ix2 0 k)) (fun k => x2 (ix2 0 k)) (x3 (ix2 0 0)))

theorem weights_rows (x : ℕ → Fin 768 → ℝ) : weights (rowU (F := Ideal) x0) (rowW (F := Ideal) x0) x1 x2 x3 x = weightsOf x0 x1 x2 x3 x := by
  have e0 : row (rowU (F := Ideal) x0) = fun k => x0 (ix2 0 k) := by
    funext k
    refine congrArg x0 (funext fun a => Fin.ext ?_)
    fin_cases a <;> simp [Rect.unit, Rect.emb]
  have e1 : row (rowW (F := Ideal) x0) = fun k => x0 (ix2 1 k) := by
    funext k
    refine congrArg x0 (funext fun a => Fin.ext ?_)
    fin_cases a <;> simp [Rect.unit, Rect.emb]
  unfold weights weightsOf
  rw [e0, e1]; rfl

variable (hx : ∀ (i : Fin 8192) (c : Fin 768), h (ix3 ⟨t.val / 8, batch_lt t⟩ i c) = (x i.val c : EReal))
include hx

/-- A grid point's window shows its sequence. -/
theorem window_shows : Shows (winStart t.val) (k0_pay5 (F := Ideal) (win (F := Ideal) h t)) x 0 0 := by
  intro p c _ _
  have hw := winStart_le t.val
  have hp := p.isLt
  unfold k0_pay5
  pointwise
  rw [← hx ⟨winStart t.val + p.val, by omega⟩ c]
  refine congrArg h (funext fun a => Fin.ext ?_)
  fin_cases a <;> simp [Rect.unit, Rect.emb]

variable (hw : ∀ k c, x4 (ix2 k c) = (Wq k c : EReal)) (hb : ∀ c, x5 (ix2 0 c) = (Bq c : EReal))
include hw hb

/-- The energy block of a grid point: what the block held, but for the first block of a sequence, and half the parts of
    the point's own rows. -/
theorem engStep_at (y : FVec Ideal S1x8x128 .f32) (j : S1x8x128.Idx) :
    engStep (F := Ideal) h x0 x1 x2 x3 x4 x5 t y j
      = (if t.val % 8 = 0 then 0 else y (ix3 0 0 0)) + (((1 / 2) * ∑ r ∈ Finset.range 1024,
          part (weightsOf x0 x1 x2 x3 x) (state (weightsOf x0 x1 x2 x3 x) (query x Wq Bq) x) (1024 * (t.val % 8) + r) : ℝ) : EReal) := by
  have ht : t.val % 8 < 8 := Nat.mod_lt _ (by omega)
  have hS := winStart_le t.val
  have hd : winStart t.val = min 7136 (1024 * (t.val % 8) - 16) := rfl
  rw [← weights_rows]
  refine (point_energy (winStart t.val) (win (F := Ideal) h t) _ _ x1 x2 x3 x4 x5 hS (window_shows h t hx) hw hb (t.val % 8) ht
    (1024 * (t.val % 8) - winStart t.val) ?_ ?_ ?_ ?_ (Cert.KernelIdeal.Run.head (F := Ideal) y) j).trans ?_
  · omega
  · omega
  · omega
  · omega
  · have e : Cert.KernelIdeal.Run.head (F := Ideal) y (ix3 0 0 0) = y (ix3 0 0 0) := by
      refine congrArg y (funext fun a => Fin.ext ?_)
      fin_cases a <;> simp [Rect.unit, Rect.emb]
    rw [e]

/-- The output block of a grid point: its own rows' normalised entries, scaled and shifted. -/
theorem outStep_at (r : Fin 1024) (c : Fin 768) :
    outStep (F := Ideal) h x0 x1 x2 x3 x4 x5 x6 x7 t (ix3 0 r c)
      = (normed (fun c => state (weightsOf x0 x1 x2 x3 x) (query x Wq Bq) x (1024 * (t.val % 8) + r.val) c + x (1024 * (t.val % 8) + r.val) c) c : EReal)
          * x6 (ix2 0 c) + x7 (ix2 0 c) := by
  have ht : t.val % 8 < 8 := Nat.mod_lt _ (by omega)
  have hr := r.isLt
  have hS := winStart_le t.val
  have hd : winStart t.val = min 7136 (1024 * (t.val % 8) - 16) := rfl
  rw [← weights_rows]
  have key (p : Fin 1056) (hp : winStart t.val + p.val = 1024 * (t.val % 8) + r.val) (h1 : winStart t.val = 0 ∨ 8 ≤ p.val) (h2 : winStart t.val = 7136 ∨ p.val + 8 < 1056) :=
    point_out (winStart t.val) (win (F := Ideal) h t) (rowU (F := Ideal) x0) (rowW (F := Ideal) x0) x1 x2 x3 x4 x5 hS (window_shows h t hx) hw hb x6 x7 p c h1 h2
  unfold outStep
  split
  · rw [out0, rows_from0]
    refine (key ⟨r.val, by omega⟩ (by show winStart t.val + (r.val) = _; omega) (by show _ ∨ 8 ≤ r.val; omega) (by show _ ∨ r.val + 8 < 1056; omega)).trans ?_
    rw [show winStart t.val + (⟨r.val, by omega⟩ : Fin 1056).val = 1024 * (t.val % 8) + r.val by show winStart t.val + (r.val) = _; omega]
  split
  · rw [out32, rows_from32]
    refine (key ⟨32 + r.val, by omega⟩ (by show winStart t.val + (32 + r.val) = _; omega) (by show _ ∨ 8 ≤ 32 + r.val; omega) (by show _ ∨ 32 + r.val + 8 < 1056; omega)).trans ?_
    rw [show winStart t.val + (⟨32 + r.val, by omega⟩ : Fin 1056).val = 1024 * (t.val % 8) + r.val by show winStart t.val + (32 + r.val) = _; omega]
  · rw [out16, rows_from16]
    refine (key ⟨16 + r.val, by omega⟩ (by show winStart t.val + (16 + r.val) = _; omega) (by show _ ∨ 8 ≤ 16 + r.val; omega) (by show _ ∨ 16 + r.val + 8 < 1056; omega)).trans ?_
    rw [show winStart t.val + (⟨16 + r.val, by omega⟩ : Fin 1056).val = 1024 * (t.val % 8) + r.val by show winStart t.val + (16 + r.val) = _; omega]

end Step

end Cert.Diffusion

end
-- ==== Proof.KernelArrays.lean ====
/- The two arrays that the launch leaves: a block of output rows per grid point, and per sequence the energy that its eight
   grid points have added up. -/
module

public import proofs.«01_k».proof.Proof.KernelBlocks
public import proofs.«01_k».proof.Proof.KernelPoint

@[expose] public section

set_option maxRecDepth 16384

noncomputable section

namespace Cert.Diffusion

open Idealize.ShloMosaic Idealize.ShloMosaic.TcCoe Cert.KernelIdeal Cert.KernelIdeal.Gen Cert.KernelIdeal.Run

variable (m : (ℓ : Loc nD τ sig) → Buf (Elt Ideal) ℓ) (c : Dev nD)

/-- The edge network that the arguments spell. -/
def netK : ℝ → ℝ → ℝ :=
  netOf (fun k => w1K m c (ix2 0 k)) (fun k => w1K m c (ix2 1 k)) (fun k => b1K m c (ix1 k)) (fun k => w2K m c (ix2 k 0)) (b2K m c (ix1 0))

theorem weights_in (t : Fin cfg0.N) (x : ℕ → Fin 768 → ℝ) :
    weightsOf (in0 m c t) (in1 m c t) (in2 m c t) (in3 m c t) x = mu x (netK m c) := by
  unfold weightsOf netK
  simp only [in0_at, in1_at, in2_at, in3_at]

variable {m c} {x : Fin 2 → ℕ → Fin 768 → ℝ} {Wq : Fin 768 → Fin 768 → ℝ} {Bq : Fin 768 → ℝ}
  (hx : ∀ b (i : Fin 8192) a, hiddenK m c (ix3 b i a) = (x b i.val a : EReal)) (hw : ∀ k a, wqK m c (ix2 k a) = (Wq k a : EReal))
  (hb : ∀ a, bqK m c (ix1 a) = (Bq a : EReal))
include hx hw hb

/-- The output block of a grid point. -/
theorem outAt_at (t : Fin cfg0.N) (b : Fin 2) (ht : t.val / 8 = b.val) (r : Fin 1024) (a : Fin 768) :
    (outAt m c t : FVec Ideal S1x1024x768 .f32) (ix3 0 r a)
      = (normed (fun a => state (mu (x b) (netK m c)) (query (x b) Wq Bq) (x b) (1024 * (t.val % 8) + r.val) a + x b (1024 * (t.val % 8) + r.val) a) a : EReal)
          * gammaK m c (ix1 a) + betaK m c (ix1 a) := by
  have hN : t.val < 16 := t.isLt
  have e := outStep_at (hiddenK m c) (in0 m c t) (in1 m c t) (in2 m c t) (in3 m c t) (in4 m c t) (in5 m c t) (in6 m c t) (in7 m c t) (pt t)
    (x := x b) (Wq := Wq) (Bq := Bq) (fun i a => (congrArg (fun b => hiddenK m c (ix3 b i a)) (Fin.ext ht)).trans (hx b i a))
    (fun k a => (in4_at m c t k a).trans (hw k a)) (fun a => (in5_at m c t a).trans (hb a)) r a
  rw [weights_in, in6_at, in7_at] at e
  unfold outAt
  rw [held_hidden]
  exact e

/-- The array of output rows: whatever array has those rows. -/
theorem out_array (G : FVec Ideal S2x8192x768 .f32)
    (hG : ∀ b (i : Fin 8192) (a : Fin 768), G (ix3 b i a)
      = (normed (fun a => state (mu (x b) (netK m c)) (query (x b) Wq Bq) (x b) i.val a + x b i.val a) a : EReal) * gammaK m c (ix1 a) + betaK m c (ix1 a)) :
    (dats m 0 c).arrAt 8 cfg0.N = G := by
  have hi : ∀ t, win0_8.index t = ![t.val / 8, t.val % 8, 0] := by decide +kernel
  refine (dats m 0 c).arrAt_eq_of_covers 8 G (by decide +kernel) fun t hf y => ?_
  blk_simp
  rw [after_8]
  have hN : t.val < 16 := t.isLt
  obtain ⟨y0, r, a, rfl⟩ : ∃ (y0 : Fin 1) (r : Fin 1024) (a : Fin 768), y = ix3 y0 r a := ⟨y 0, y 1, y 2, by funext k; fin_cases k <;> rfl⟩
  obtain rfl : y0 = 0 := Subsingleton.elim _ _
  have he : (win0_8.blk t).view.emb (ix3 0 r a)
      = (ix3 (⟨t.val / 8, by omega⟩ : Fin 2) (⟨1024 * (t.val % 8) + r.val, by omega⟩ : Fin 8192) a : S2x8192x768.Idx) := by
    blk_ext [hi t]
  refine (outAt_at hx hw hb t ⟨t.val / 8, by omega⟩ rfl r a).trans ?_
  refine Eq.trans ?_ (congrArg G he).symm
  rw [hG]

/-- What the energy block holds, everywhere the same, after grid point `n`: half the parts of the rows done so far of the
    point's sequence. -/
theorem engAt_at (n : ℕ) (hn : n < cfg0.N) (b : Fin 2) (hb2 : n / 8 = b.val) (j : S1x8x128.Idx) :
    (engAt m c n hn : FVec Ideal S1x8x128 .f32) j
      = (((1 / 2) * ∑ i ∈ Finset.range (1024 * (n % 8 + 1)),
          part (mu (x b) (netK m c)) (state (mu (x b) (netK m c)) (query (x b) Wq Bq) (x b)) i : ℝ) : EReal) := by
  have hN : n < 16 := hn
  have step (y : FVec Ideal S1x8x128 .f32) : (engNext m c ⟨n, hn⟩ y : FVec Ideal S1x8x128 .f32) j
      = (if n % 8 = 0 then 0 else y (ix3 0 0 0)) + (((1 / 2) * ∑ r ∈ Finset.range 1024,
          part (mu (x b) (netK m c)) (state (mu (x b) (netK m c)) (query (x b) Wq Bq) (x b)) (1024 * (n % 8) + r) : ℝ) : EReal) := by
    have e := engStep_at (hiddenK m c) (in0 m c ⟨n, hn⟩) (in1 m c ⟨n, hn⟩) (in2 m c ⟨n, hn⟩) (in3 m c ⟨n, hn⟩) (in4 m c ⟨n, hn⟩) (in5 m c ⟨n, hn⟩) (pt ⟨n, hn⟩)
      (x := x b) (Wq := Wq) (Bq := Bq) (fun i a => (congrArg (fun b => hiddenK m c (ix3 b i a)) (Fin.ext hb2)).trans (hx b i a))
      (fun k a => (in4_at m c _ k a).trans (hw k a)) (fun a => (in5_at m c _ a).trans (hb a)) y j
    rw [weights_in] at e
    unfold engNext
    rw [held_hidden]
    exact e
  by_cases h0 : n % 8 = 0
  · refine (congrFun (engAt_first m c ⟨n, hn⟩ h0 (fun _ => 0)) j).trans ((step _).trans ?_)
    rw [if_pos h0, zero_add, h0]
    simp
  · have hp := engAt_at (n - 1) (by omega) b (by omega) (ix3 0 0 0)
    refine (congrFun (engAt_later m c ⟨n, hn⟩ (by show n ≠ 0; omega)) j).trans ((step _).trans ?_)
    rw [if_neg h0]
    refine (congrArg (· + _) hp).trans ?_
    rw [← EReal.coe_add, ← mul_add, show (n - 1) % 8 + 1 = n % 8 by omega, show 1024 * (n % 8 + 1) = 1024 * (n % 8) + 1024 by ring, Finset.sum_range_add]

/-- The array of energies: one block per sequence, the sequence's energy all over it. -/
theorem energy_array (b : Fin 2) (j : Fin 8) (k : Fin 128) :
    ((dats m 0 c).arrAt 9 cfg0.N : FVec Ideal S2x8x128 .f32) (ix3 b j k)
      = (energy (mu (x b) (netK m c)) (state (mu (x b) (netK m c)) (query (x b) Wq Bq) (x b)) : EReal) := by
  have hi : ∀ t, win0_9.index t = ![t.val / 8, 0, 0] := by decide +kernel
  have key : (dats m 0 c).arrAt 9 cfg0.N = (fun i : S2x8x128.Idx => (energy (mu (x (i 0)) (netK m c)) (state (mu (x (i 0)) (netK m c)) (query (x (i 0)) Wq Bq) (x (i 0))) : EReal)) := by
    refine (dats m 0 c).arrAt_eq_of_covers 9 _ (by decide +kernel) fun t hf y => ?_
    have hm : t.val % 8 = 7 := (flush0_9 t).mp hf
    blk_simp
    rw [after_9]
    have hN : t.val < 16 := t.isLt
    obtain ⟨y0, r, a, rfl⟩ : ∃ (y0 : Fin 1) (r : Fin 8) (a : Fin 128), y = ix3 y0 r a := ⟨y 0, y 1, y 2, by funext k; fin_cases k <;> rfl⟩
    obtain rfl : y0 = 0 := Subsingleton.elim _ _
    have he : (win0_9.blk t).view.emb (ix3 0 r a) = (ix3 (⟨t.val / 8, by omega⟩ : Fin 2) r a : S2x8x128.Idx) := by
      blk_ext [hi t]
    refine (engAt_at hx hw hb t.val t.isLt ⟨t.val / 8, by omega⟩ rfl _).trans ?_
    rw [hm]
    refine Eq.trans ?_ (congrArg (fun i : S2x8x128.Idx => (energy (mu (x (i 0)) (netK m c)) (state (mu (x (i 0)) (netK m c)) (query (x (i 0)) Wq Bq) (x (i 0))) : EReal)) he).symm
    rfl
  rw [key]; rfl

end Cert.Diffusion
-- ==== Proof.KernelResults.lean ====
/- What the kernel returns: the array of output rows as the launch leaves it, and the energies cut out of the launch's array
   by the host. -/
module

public import proofs.«01_k».proof.Proof.KernelArrays

@[expose] public section

set_option maxRecDepth 16384

noncomputable section

namespace Cert.Diffusion

open Idealize.ShloMosaic Idealize.ShloMosaic.TcCoe Cert.KernelIdeal Cert.KernelIdeal.Gen Cert.KernelIdeal.Run Idealize.SL.Sem

variable (m : (ℓ : Loc nD τ sig) → Buf (Elt Ideal) ℓ) (c : Dev nD)

/-- The launch's array of energies. -/
def energyArray : FVec Ideal S2x8x128 .f32 := (dats m 0 c).arrAt 9 cfg0.N

/-- After the launch the host takes the first entry of each sequence's block. -/
theorem energies_read (b : Fin 2) :
    (Pipeline.afterTail₀ cfgs (dats m) 0 (V0 m) [hostOps1] c main_v8 : FVec Ideal S2 .f32) (ix1 b) = energyArray m c (ix3 b 0 0) := by
  have h : Pipeline.afterTail₀ cfgs (dats m) 0 (V0 m) [hostOps1] c main_v8
      = (shapeCast S2 (extractStridedSlice S2x1x1 ![0, 0, 0] (energyArray m c) (by decide)) rfl : FVec Ideal S2 .f32) := by
    unfold Pipeline.afterTail₀
    show StableHlo.after hostOps1 _ (Proc.devRef .tc main_v8) = _
    after_results
    have e : Pipeline.withArrays (cfgs 0).spec c (V0 m c) (fun w => (dats m 0 c).arrAt w (cfgs 0).N) (Proc.tc.devRef main_v6_1)
        = energyArray m c := Pipeline.withArrays_arr spec0 (by decide) c _ _ 9
    rw [e]
    rfl
  rw [h]
  generalize energyArray m c = E
  pointwise

variable {m} (g : Dev nD → PrngReg) {x : Dev nD → Fin 2 → ℕ → Fin 768 → ℝ} {Wq : Dev nD → Fin 768 → Fin 768 → ℝ} {Bq : Dev nD → Fin 768 → ℝ}
  (hx : ∀ c b (i : Fin 8192) a, hiddenK m c (ix3 b i a) = (x c b i.val a : EReal)) (hw : ∀ c k a, wqK m c (ix2 k a) = (Wq c k a : EReal))
  (hb : ∀ c a, bqK m c (ix1 a) = (Bq c a : EReal))
  (G : (c : Dev nD) → FVec Ideal S2x8192x768 .f32) (E : (c : Dev nD) → FVec Ideal S2 .f32)
  (hG : ∀ c b (i : Fin 8192) (a : Fin 768), G c (ix3 b i a)
    = (normed (fun a => state (mu (x c b) (netK m c)) (query (x c b) (Wq c) (Bq c)) (x c b) i.val a + x c b i.val a) a : EReal) * gammaK m c (ix1 a)
        + betaK m c (ix1 a))
  (hE : ∀ c b, E c (ix1 b) = (energy (mu (x c b) (netK m c)) (state (mu (x c b) (netK m c)) (query (x c b) (Wq c) (Bq c)) (x c b)) : EReal))
include hx hw hb hG hE

/-- The run: both results as the formulas say, the arguments unchanged. -/
theorem kernel_run : θ_run defs (onTc (τ := τ) (main (F := Ideal))) ⟨m, fun _ => 0, g⟩ (fun r => ∀ c : Dev nD,
        r.2.mem ((c.tc : Thread nD τ).loc main_v6_0) = G c
        ∧ r.2.mem ((c.tc : Thread nD τ).loc main_v8) = E c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  (θ_run defs _ _).mono (fun _ hh c =>
    ⟨((hh.1 c).1 8).trans (out_array (hx c) (hw c) (hb c) (G c) (hG c)),
      ((hh.1 c).2 main_v8 (Pipeline.mem_restRefs_of main_v8 (by decide) (by decide))).trans (funext fun j => by
        obtain ⟨b, rfl⟩ : ∃ b : Fin 2, j = (ix1 b : S2.Idx) := ⟨j 0, by funext k; fin_cases k; rfl⟩
        exact (energies_read m c b).trans ((energy_array (hx c) (hw c) (hb c) b 0 0).trans (hE c b).symm)),
      args_kept m hh.1 c⟩) (run_main m g)

end Cert.Diffusion
-- ==== Proof.Edges.lean ====
/- Sums over the edges of the window graph: row `i` is joined to rows `i + 1` and `i + 2`. The reference lists the 8191
   edges of the first kind and then the 8190 of the second. -/
module

public import Idealize.ShloMosaic.PureOps.Ideal

@[expose] public section

noncomputable section

namespace Cert.Diffusion

/-- The lower row of edge `e` of the reference's list, -/
def src (e : ℕ) : ℕ := if e < 8191 then e else e - 8191
/-- how far above it the other row is, -/
def rad (e : ℕ) : ℕ := if e < 8191 then 1 else 2
/-- and that other row. -/
def dst (e : ℕ) : ℕ := src e + rad e

theorem src_lt {e : ℕ} (h : e < 16381) : src e < 8192 := by unfold src; split <;> omega
theorem dst_lt {e : ℕ} (h : e < 16381) : dst e < 8192 := by unfold dst src rad; split <;> omega

/-- A sum over the edges is the sum over those to the next row and those to the row after the next. -/
theorem sum_edges (F : ℕ → ℝ) :
    ∑ e : Fin 16381, F e.val = ∑ i ∈ Finset.range 8191, F i + ∑ i ∈ Finset.range 8190, F (8191 + i) := by
  rw [Fin.sum_univ_eq_sum_range F 16381]
  exact Finset.sum_range_add F 8191 8190

/-- The edges whose lower row is `i`. -/
theorem sum_src (g : ℕ → ℕ → ℝ) (i : ℕ) :
    ∑ e : Fin 16381, (if src e.val = i then g (rad e.val) (src e.val) else 0)
      = (if i + 1 < 8192 then g 1 i else 0) + (if i + 2 < 8192 then g 2 i else 0) := by
  rw [sum_edges (fun e => if src e = i then g (rad e) (src e) else 0)]
  refine congrArg₂ (· + ·) ?_ ?_
  · rw [Finset.sum_congr rfl (g := fun e => if e = i then g 1 i else 0)]
    · rw [Finset.sum_ite_eq']; simp only [Finset.mem_range]; congr 1; simp only [eq_iff_iff]; omega
    · intro e he; have := Finset.mem_range.1 he
      simp only [src, rad, this, if_true]; split <;> simp_all
  · rw [Finset.sum_congr rfl (g := fun e => if e = i then g 2 i else 0)]
    · rw [Finset.sum_ite_eq']; simp only [Finset.mem_range]; congr 1; simp only [eq_iff_iff]; omega
    · intro e he
      have h : ¬ 8191 + e < 8191 := by omega
      simp only [src, rad, h, if_false, Nat.add_sub_cancel_left]; split <;> simp_all

/-- The edges whose upper row is `i`. -/
theorem sum_dst (g : ℕ → ℕ → ℝ) (i : ℕ) (hi : i < 8192) :
    ∑ e : Fin 16381, (if dst e.val = i then g (rad e.val) (src e.val) else 0)
      = (if 1 ≤ i then g 1 (i - 1) else 0) + (if 2 ≤ i then g 2 (i - 2) else 0) := by
  rw [sum_edges (fun e => if dst e = i then g (rad e) (src e) else 0)]
  refine congrArg₂ (· + ·) ?_ ?_
  · by_cases h1 : 1 ≤ i
    · rw [if_pos h1, Finset.sum_congr rfl (g := fun e => if e = i - 1 then g 1 (i - 1) else 0)]
      · rw [Finset.sum_ite_eq']; rw [if_pos]; simp only [Finset.mem_range]; omega
      · intro e he; have := Finset.mem_range.1 he
        simp only [dst, src, rad, this, if_true]
        by_cases h : e + 1 = i
        · rw [if_pos h, if_pos (by omega)]; congr; omega
        · rw [if_neg h, if_neg (by omega)]
    · rw [if_neg h1]; refine Finset.sum_eq_zero fun e he => if_neg ?_
      have := Finset.mem_range.1 he
      simp only [dst, src, rad, this, if_true]; omega
  · by_cases h1 : 2 ≤ i
    · rw [if_pos h1, Finset.sum_congr rfl (g := fun e => if e = i - 2 then g 2 (i - 2) else 0)]
      · rw [Finset.sum_ite_eq']; rw [if_pos]; simp only [Finset.mem_range]; omega
      · intro e he
        have h : ¬ 8191 + e < 8191 := by omega
        simp only [dst, src, rad, h, if_false, Nat.add_sub_cancel_left]
        by_cases h : e + 2 = i
        · rw [if_pos h, if_pos (by omega)]; congr; omega
        · rw [if_neg h, if_neg (by omega)]
    · rw [if_neg h1]; refine Finset.sum_eq_zero fun e he => if_neg ?_
      have h : ¬ 8191 + e < 8191 := by omega
      simp only [dst, src, rad, h, if_false, Nat.add_sub_cancel_left]; omega

/-- All edges, grouped by their lower row. -/
theorem sum_all (g : ℕ → ℕ → ℝ) :
    ∑ e : Fin 16381, g (rad e.val) (src e.val)
      = ∑ i ∈ Finset.range 8192, ((if i + 1 < 8192 then g 1 i else 0) + (if i + 2 < 8192 then g 2 i else 0)) := by
  rw [sum_edges (fun e => g (rad e) (src e)), Finset.sum_add_distrib]
  refine congrArg₂ (· + ·) ?_ ?_
  · rw [Finset.sum_range_succ (fun i => if i + 1 < 8192 then g 1 i else 0) 8191, if_neg (by omega), add_zero]
    refine Finset.sum_congr rfl fun e he => ?_
    have := Finset.mem_range.1 he
    simp only [src, rad, this, if_true]; rw [if_pos (by omega)]
  · rw [Finset.sum_range_succ (fun i => if i + 2 < 8192 then g 2 i else 0) 8191, if_neg (by omega), add_zero,
      Finset.sum_range_succ (fun i => if i + 2 < 8192 then g 2 i else 0) 8190, if_neg (by omega), add_zero]
    refine Finset.sum_congr rfl fun e he => ?_
    have := Finset.mem_range.1 he
    have h : ¬ 8191 + e < 8191 := by omega
    simp only [src, rad, h, if_false, Nat.add_sub_cancel_left]; rw [if_pos (by omega)]

end Cert.Diffusion

end
-- ==== Proof.ReferenceReads.lean ====
module

public import proofs.«01_k».proof.Proof.Edges
public import proofs.«01_k».proof.Proof.Gen.ReferenceIdeal.Run
public import Idealize.ShloMosaic.Lib.Routing.OpsPair
public import Idealize.ShloMosaic.Lib.Pointwise
public import Idealize.ShloMosaic.Lib.Pointwise.IndexVar

/-!
# The reference's reads and additions along the edges

The reference reads a row of its array for each edge and adds a row back at an end of each edge.
With an array of start indices whose entry for edge `e` is the word of a number `n e` below 8192,
the read gives row `n e`, and the addition gives at row `i` the sum over the edges with `n e = i`.
-/

@[expose] public section

noncomputable section

namespace Cert.Diffusion

open Idealize.ShloMosaic Idealize.ShloMosaic.Routing Cert.ReferenceIdeal Cert.ReferenceIdeal.Gen

theorem word_toInt (n : ℕ) (h : n < 8192) : (BitVec.ofNat 32 n).toInt = n :=
  StableHlo.Predicate.toInt_ofNat_small n (by omega)

theorem ends {p q r : ℤ} {w v : ℕ} (hp : p = q) (hw : w = v) (h : q + (v : ℤ) = r) : p + (w : ℤ) = r := by
  rw [hp, hw, h]

/-- The row read for edge `e`, from an array of two batches of rows. -/
theorem gather3_at {α : Type} (X : S2x8192x768.Idx → α) (idx : IVec S16381x1 32) (b : Fin 2) (e : Fin 16381) (c : Fin 768) (n : Fin 8192)
    (h : idx (ix2 e 0) = BitVec.ofNat 32 n.val) :
    Host.gather gather_S2x8192x768_S16381x1_S2x16381x768_02_1_n_n_1_1_21768 X idx (ix3 b e c) = X (ix3 b n c) := by
  refine congrArg X (funext fun a => Fin.ext ?_)
  have hs : gather_S2x8192x768_S16381x1_S2x16381x768_02_1_n_n_1_1_21768.siIdx (ix3 b e c) ⟨0, Nat.one_pos⟩ = ix2 e 0 := by
    funext a
    match a with
    | ⟨0, _⟩ => rfl
    | ⟨1, _⟩ => rfl
  match a with
  | ⟨0, _⟩ => exact (by show 0 + 0 + b.val = b.val; omega)
  | ⟨1, _⟩ =>
    show min (idx (gather_S2x8192x768_S16381x1_S2x16381x768_02_1_n_n_1_1_21768.siIdx (ix3 b e c) ⟨0, Nat.one_pos⟩)).toInt.toNat 8191 + 0 + 0 = n.val
    rw [hs, h, word_toInt _ n.isLt]
    have := n.isLt
    omega
  | ⟨2, _⟩ => exact (by show 0 + 0 + c.val = c.val; omega)

/-- The entry read for edge `e`, from an array of two batches of entries. -/
theorem gather2_at {α : Type} (X : S2x8192.Idx → α) (idx : IVec S16381x1 32) (b : Fin 2) (e : Fin 16381) (n : Fin 8192)
    (h : idx (ix2 e 0) = BitVec.ofNat 32 n.val) :
    Host.gather gather_S2x8192_S16381x1_S2x16381_0_1_n_n_1_1_21 X idx (ix2 b e) = X (ix2 b n) := by
  refine congrArg X (funext fun a => Fin.ext ?_)
  have hs : gather_S2x8192_S16381x1_S2x16381_0_1_n_n_1_1_21.siIdx (ix2 b e) ⟨0, Nat.one_pos⟩ = ix2 e 0 := by
    funext a
    match a with
    | ⟨0, _⟩ => rfl
    | ⟨1, _⟩ => rfl
  match a with
  | ⟨0, _⟩ => exact (by show 0 + 0 + b.val = b.val; omega)
  | ⟨1, _⟩ =>
    show min (idx (gather_S2x8192_S16381x1_S2x16381_0_1_n_n_1_1_21.siIdx (ix2 b e) ⟨0, Nat.one_pos⟩)).toInt.toNat 8191 + 0 + 0 = n.val
    rw [hs, h, word_toInt _ n.isLt]
    have := n.isLt
    omega

theorem lands3 (idx : IVec S16381x1 32) (b' b : Fin 2) (e : Fin 16381) (i : Fin 8192) (c' c : Fin 768) (n : ℕ) (hn : n < 8192)
    (h : idx (ix2 e 0) = BitVec.ofNat 32 n) :
    scatter_S2x8192x768_S16381x1_S2x16381x768_02_1_1_1.resultIdx? (ix3 b' e c') idx = some (ix3 b i c) ↔ b' = b ∧ n = i.val ∧ c' = c := by
  have hs : scatter_S2x8192x768_S16381x1_S2x16381x768_02_1_1_1.siIdx (ix3 b' e c') ⟨0, Nat.one_pos⟩ = ix2 e 0 := by
    funext a
    match a with
    | ⟨0, _⟩ => rfl
    | ⟨1, _⟩ => rfl
  rw [resultIdx?_eq_some]
  have h0 : scatter_S2x8192x768_S16381x1_S2x16381x768_02_1_1_1.start (ix3 b' e c') idx 0 = 0 := rfl
  have h2 : scatter_S2x8192x768_S16381x1_S2x16381x768_02_1_1_1.start (ix3 b' e c') idx 2 = 0 := rfl
  have h1 : scatter_S2x8192x768_S16381x1_S2x16381x768_02_1_1_1.start (ix3 b' e c') idx 1 = n := by
    show (idx (scatter_S2x8192x768_S16381x1_S2x16381x768_02_1_1_1.siIdx (ix3 b' e c') ⟨0, Nat.one_pos⟩)).toInt = n
    rw [hs, h, word_toInt _ hn]
  have w0 : scatter_S2x8192x768_S16381x1_S2x16381x768_02_1_1_1.window (ix3 b' e c') 0 = b'.val := rfl
  have w1 : scatter_S2x8192x768_S16381x1_S2x16381x768_02_1_1_1.window (ix3 b' e c') 1 = 0 := rfl
  have w2 : scatter_S2x8192x768_S16381x1_S2x16381x768_02_1_1_1.window (ix3 b' e c') 2 = c'.val := rfl
  constructor
  · intro q
    have q0 := q 0
    have q1 := q 1
    have q2 := q 2
    rw [h0, w0] at q0
    rw [h1, w1] at q1
    rw [h2, w2] at q2
    change (0 : ℤ) + b'.val = b.val at q0
    change (n : ℤ) + (0 : ℕ) = i.val at q1
    change (0 : ℤ) + c'.val = c.val at q2
    exact ⟨Fin.ext (by omega), by omega, Fin.ext (by omega)⟩
  · rintro ⟨rfl, q, rfl⟩ a
    match a with
    | ⟨0, _⟩ => exact ends h0 w0 (Int.zero_add _)
    | ⟨1, _⟩ => exact ends h1 w1 (by show (n : ℤ) + (0 : ℕ) = i.val; omega)
    | ⟨2, _⟩ => exact ends h2 w2 (Int.zero_add _)

theorem lands2 (idx : IVec S16381x1 32) (b' b : Fin 2) (e : Fin 16381) (i : Fin 8192) (n : ℕ) (hn : n < 8192)
    (h : idx (ix2 e 0) = BitVec.ofNat 32 n) :
    scatter_S2x8192_S16381x1_S2x16381_0_1_1_1.resultIdx? (ix2 b' e) idx = some (ix2 b i) ↔ b' = b ∧ n = i.val := by
  have hs : scatter_S2x8192_S16381x1_S2x16381_0_1_1_1.siIdx (ix2 b' e) ⟨0, Nat.one_pos⟩ = ix2 e 0 := by
    funext a
    match a with
    | ⟨0, _⟩ => rfl
    | ⟨1, _⟩ => rfl
  rw [resultIdx?_eq_some]
  have h0 : scatter_S2x8192_S16381x1_S2x16381_0_1_1_1.start (ix2 b' e) idx 0 = 0 := rfl
  have h1 : scatter_S2x8192_S16381x1_S2x16381_0_1_1_1.start (ix2 b' e) idx 1 = n := by
    show (idx (scatter_S2x8192_S16381x1_S2x16381_0_1_1_1.siIdx (ix2 b' e) ⟨0, Nat.one_pos⟩)).toInt = n
    rw [hs, h, word_toInt _ hn]
  have w0 : scatter_S2x8192_S16381x1_S2x16381_0_1_1_1.window (ix2 b' e) 0 = b'.val := rfl
  have w1 : scatter_S2x8192_S16381x1_S2x16381_0_1_1_1.window (ix2 b' e) 1 = 0 := rfl
  constructor
  · intro q
    have q0 := q 0
    have q1 := q 1
    rw [h0, w0] at q0
    rw [h1, w1] at q1
    change (0 : ℤ) + b'.val = b.val at q0
    change (n : ℤ) + (0 : ℕ) = i.val at q1
    exact ⟨Fin.ext (by omega), by omega⟩
  · rintro ⟨rfl, q⟩ a
    match a with
    | ⟨0, _⟩ => exact ends h0 w0 (Int.zero_add _)
    | ⟨1, _⟩ => exact ends h1 w1 (by show (n : ℤ) + (0 : ℕ) = i.val; omega)

/-- Adding a row for each edge: row `i` receives the rows of the edges whose number is `i`. -/
theorem scatter3_at (X : FVec Ideal S2x8192x768 .f32) (idx : IVec S16381x1 32) (U : FVec Ideal S2x16381x768 .f32) (n : ℕ → ℕ)
    (hn : ∀ e : Fin 16381, n e.val < 8192) (h : ∀ e : Fin 16381, idx (ix2 e 0) = BitVec.ofNat 32 (n e.val))
    (b : Fin 2) (i : Fin 8192) (c : Fin 768) :
    Host.scatterAdd (F := Ideal) scatter_S2x8192x768_S16381x1_S2x16381x768_02_1_1_1 X idx U (ix3 b i c)
      = X (ix3 b i c) + ∑ e : Fin 16381, (if n e.val = i.val then U (ix3 b e c) else 0) := by
  show X (ix3 b i c) + ∑ j ∈ Finset.univ.filter (fun j => scatter_S2x8192x768_S16381x1_S2x16381x768_02_1_1_1.resultIdx? j idx = some (ix3 b i c)), U j = _
  refine congrArg (X (ix3 b i c) + ·) ?_
  rw [← Finset.sum_filter]
  symm
  refine Finset.sum_bij (fun e _ => ix3 b e c) ?_ ?_ ?_ ?_
  · intro e he
    exact Finset.mem_filter.2 ⟨Finset.mem_univ _, (lands3 idx b b e i c c _ (hn e) (h e)).2 ⟨rfl, (Finset.mem_filter.1 he).2, rfl⟩⟩
  · intro e _ e' _ q
    exact congrFun q 1
  · intro j hj
    have e3 : j = ix3 (j 0) (j 1) (j 2) := by
      funext a
      match a with
      | ⟨0, _⟩ => rfl
      | ⟨1, _⟩ => rfl
      | ⟨2, _⟩ => rfl
    have hj' := (Finset.mem_filter.1 hj).2
    rw [e3] at hj'
    have q := (lands3 idx (j 0) b (j 1) i (j 2) c _ (hn (j 1)) (h (j 1))).1 hj'
    exact ⟨j 1, Finset.mem_filter.2 ⟨Finset.mem_univ _, q.2.1⟩, by rw [← q.1, ← q.2.2]; exact e3.symm⟩
  · intro e _
    rfl

/-- Adding an entry for each edge. -/
theorem scatter2_at (X : FVec Ideal S2x8192 .f32) (idx : IVec S16381x1 32) (U : FVec Ideal S2x16381 .f32) (n : ℕ → ℕ)
    (hn : ∀ e : Fin 16381, n e.val < 8192) (h : ∀ e : Fin 16381, idx (ix2 e 0) = BitVec.ofNat 32 (n e.val))
    (b : Fin 2) (i : Fin 8192) :
    Host.scatterAdd (F := Ideal) scatter_S2x8192_S16381x1_S2x16381_0_1_1_1 X idx U (ix2 b i)
      = X (ix2 b i) + ∑ e : Fin 16381, (if n e.val = i.val then U (ix2 b e) else 0) := by
  show X (ix2 b i) + ∑ j ∈ Finset.univ.filter (fun j => scatter_S2x8192_S16381x1_S2x16381_0_1_1_1.resultIdx? j idx = some (ix2 b i)), U j = _
  refine congrArg (X (ix2 b i) + ·) ?_
  rw [← Finset.sum_filter]
  symm
  refine Finset.sum_bij (fun e _ => ix2 b e) ?_ ?_ ?_ ?_
  · intro e he
    exact Finset.mem_filter.2 ⟨Finset.mem_univ _, (lands2 idx b b e i _ (hn e) (h e)).2 ⟨rfl, (Finset.mem_filter.1 he).2⟩⟩
  · intro e _ e' _ q
    exact congrFun q 1
  · intro j hj
    have e2 : j = ix2 (j 0) (j 1) := by
      funext a
      match a with
      | ⟨0, _⟩ => rfl
      | ⟨1, _⟩ => rfl
    have hj' := (Finset.mem_filter.1 hj).2
    rw [e2] at hj'
    have q := (lands2 idx (j 0) b (j 1) i _ (hn (j 1)) (h (j 1))).1 hj'
    exact ⟨j 1, Finset.mem_filter.2 ⟨Finset.mem_univ _, q.2⟩, by rw [← q.1]; exact e2.symm⟩
  · intro e _
    rfl

end Cert.Diffusion
-- ==== Proof.ReferenceWeights.lean ====
/- The weights that the reference's edge network gives the edges. -/
module

public import proofs.«01_k».proof.Proof.ReferenceReads
public import proofs.«01_k».proof.Proof.WindowResults
public import Idealize.ShloMosaic.Lib.Tactic.CleanTypes

@[expose] public section

set_option maxRecDepth 16384

noncomputable section

namespace Cert.Diffusion

open Idealize.ShloMosaic Idealize.ShloMosaic.Routing Cert.ReferenceIdeal Cert.ReferenceIdeal.Gen Cert.ReferenceIdeal.Value

/-- A column of row numbers, a negative one counted from the end. -/
def starts (v : IVec S16381 32) : IVec S16381x1 32 :=
  broadcastInDim S16381x1 ![0] bcast_S16381_S16381x1_0 (select (cmpi .slt v (broadcastInDim S16381 ![] bcast_S_S16381 (constantI S_ 32 0#32)))
    (addi v (broadcastInDim S16381 ![] bcast_S_S16381 (constantI S_ 32 8192#32))) v)

theorem starts_at (v : IVec S16381 32) (e : Fin 16381) (n : ℕ) (hn : n < 8192) (h : v (ix1 e) = BitVec.ofNat 32 n) :
    starts v (ix2 e 0) = BitVec.ofNat 32 n := by
  unfold starts
  pointwise
  rw [h]
  exact wrap_of_lt _ _ (by rw [BitVec.toNat_ofNat]; omega)

section Columns
variable (V0 : Valuation τ sig (Elt Ideal))

theorem low_at (e : Fin 16381) : starts (res_main_v6 V0) (ix2 e 0) = BitVec.ofNat 32 (src e.val) := by
  refine starts_at _ e _ (src_lt e.isLt) ?_
  unfold res_main_v6 res_main_v0 res_main_v3
  clean_types
  pointwise
  have := e.isLt
  unfold src
  split <;> rfl

theorem high_at (e : Fin 16381) : starts (res_main_v7 V0) (ix2 e 0) = BitVec.ofNat 32 (dst e.val) := by
  refine starts_at _ e _ (dst_lt e.isLt) ?_
  unfold res_main_v7 res_main_v0 res_main_v3
  clean_types
  pointwise
  have := e.isLt
  unfold dst src rad
  split <;> exact BitVec.ofNat_add_ofNat _ _

end Columns

section Pairs
variable {V0 : Valuation τ sig (Elt Ideal)} {x : Fin 2 → ℕ → Fin 768 → ℝ}

/-- The state's entries at the lower ends of the edges, -/
theorem lower_at {S : FVec Ideal S2x8192x768 .f32} (hx : ∀ b (i : Fin 8192) c, S (ix3 b i c) = (x b i.val c : EReal))
    (b : Fin 2) (e : Fin 16381) (c : Fin 768) :
    Host.gather gather_S2x8192x768_S16381x1_S2x16381x768_02_1_n_n_1_1_21768 S (starts (res_main_v6 V0)) (ix3 b e c) = (x b (src e.val) c : EReal) :=
  (gather3_at S _ b e c ⟨src e.val, src_lt e.isLt⟩ (low_at V0 e)).trans (hx _ _ _)
/-- and at the upper ends. -/
theorem upper_at {S : FVec Ideal S2x8192x768 .f32} (hx : ∀ b (i : Fin 8192) c, S (ix3 b i c) = (x b i.val c : EReal))
    (b : Fin 2) (e : Fin 16381) (c : Fin 768) :
    Host.gather gather_S2x8192x768_S16381x1_S2x16381x768_02_1_n_n_1_1_21768 S (starts (res_main_v7 V0)) (ix3 b e c)
      = (x b (src e.val + rad e.val) c : EReal) :=
  (gather3_at S _ b e c ⟨dst e.val, dst_lt e.isLt⟩ (high_at V0 e)).trans (hx _ _ _)

end Pairs

section Weights
variable (V0 : Valuation τ sig (Elt Ideal)) {x : Fin 2 → ℕ → Fin 768 → ℝ}

/-- The hidden layer, the edge network's output, the weights as a column and the weights as a row. -/
def layerR : FVec Ideal S2x16381x384 .f32 := res_main_v44 V0
def outR : FVec Ideal S2x16381x1 .f32 := res_main_v55 V0
def weightR : FVec Ideal S2x16381x1 .f32 := res_main_v60 V0
def weightsR : FVec Ideal S2x16381 .f32 := res_main_v61 V0

/-- The arguments that the edge network reads. -/
def w1R : FVec Ideal S2x384 .f32 := V0 (Proc.devRef .tc main_arg2)
def b1R : FVec Ideal S384 .f32 := V0 (Proc.devRef .tc main_arg3)
def w2R : FVec Ideal S384x1 .f32 := V0 (Proc.devRef .tc main_arg4)
def b2R : FVec Ideal S1 .f32 := V0 (Proc.devRef .tc main_arg5)
def stateR : FVec Ideal S2x8192x768 .f32 := V0 (Proc.devRef .tc main_arg0)

/-- The edge network. -/
def netR : ℝ → ℝ → ℝ :=
  netOf (fun k => w1R V0 (ix2 0 k)) (fun k => w1R V0 (ix2 1 k)) (fun k => b1R V0 (ix1 k)) (fun k => w2R V0 (ix2 k 0)) (b2R V0 (ix1 0))

/-- The edge's two features through the first layer. -/
theorem layer_at (hx : ∀ b (i : Fin 8192) c, stateR V0 (ix3 b i c) = (x b i.val c : EReal)) (b : Fin 2) (e : Fin 16381) (k : Fin 384) :
    layerR V0 (ix3 b e k)
      = preOf (fun k => w1R V0 (ix2 0 k)) (fun k => w1R V0 (ix2 1 k)) (fun k => b1R V0 (ix1 k))
          (dist (x b) (rad e.val) (src e.val) : ℝ) (cosine (x b) (rad e.val) (src e.val) : ℝ) k := by
  obtain ⟨L, hL⟩ : ∃ L : FVec Ideal S2x16381x768 .f32, res_main_v18 V0 = L := ⟨_, rfl⟩
  obtain ⟨H, hH⟩ : ∃ H : FVec Ideal S2x16381x768 .f32, res_main_v25 V0 = H := ⟨_, rfl⟩
  have eL : ∀ c, L (ix3 b e c) = (x b (src e.val) c : EReal) := fun c => by rw [← hL]; exact lower_at hx b e c
  have eH : ∀ c, H (ix3 b e c) = (x b (src e.val + rad e.val) c : EReal) := fun c => by rw [← hH]; exact upper_at hx b e c
  unfold layerR w1R b1R res_main_v44 res_main_v26
  rw [hL, hH]
  clean_types
  pointwise
  simp only [eL, eH, Fintype.sum_unique, preOf]
  have e0 : 0 < norm (x b) (src e.val) * norm (x b) (src e.val + rad e.val) := mul_pos (norm_pos _ _) (norm_pos _ _)
  have hd : Ideal.sqrt (∑ c, (((x b (src e.val) c : ℝ) : EReal) - (x b (src e.val + rad e.val) c : ℝ)) * (((x b (src e.val) c : ℝ) : EReal) - (x b (src e.val + rad e.val) c : ℝ)))
      = (dist (x b) (rad e.val) (src e.val) : ℝ) := by
    simp only [← EReal.coe_sub, ← EReal.coe_mul, ← coe_sum]
    exact if_neg (not_lt.2 (Finset.sum_nonneg fun c _ => mul_self_nonneg _))
  have hn : ∀ i, max (Ideal.sqrt (∑ c, ((x b i c : ℝ) : EReal) * (x b i c : ℝ))) (Ideal.ofBits .f32 897988541#32) = (norm (x b) i : ℝ) := by
    intro i
    simp only [← EReal.coe_mul, ← coe_sum]
    refine (congrArg₂ max (if_neg (not_lt.2 (Finset.sum_nonneg fun c _ => mul_self_nonneg _))) eps6_real).trans ?_
    exact (EReal.coe_strictMono.monotone.map_max).symm
  rw [hd, hn, hn]
  simp only [← EReal.coe_mul, ← coe_sum]
  rw [Ideal.div, if_neg (by exact_mod_cast e0.ne'), ← EReal.coe_inv, ← EReal.coe_mul]
  rfl

/-- The edge network's output. -/
theorem out_at (hx : ∀ b (i : Fin 8192) c, stateR V0 (ix3 b i c) = (x b i.val c : EReal)) (b : Fin 2) (e : Fin 16381) :
    outR V0 (ix3 b e 0)
      = outOf (fun k => w1R V0 (ix2 0 k)) (fun k => w1R V0 (ix2 1 k)) (fun k => b1R V0 (ix1 k)) (fun k => w2R V0 (ix2 k 0)) (b2R V0 (ix1 0))
          (dist (x b) (rad e.val) (src e.val) : ℝ) (cosine (x b) (rad e.val) (src e.val) : ℝ) := by
  unfold outOf
  simp only [← layer_at V0 hx]
  obtain ⟨P, hP⟩ : ∃ P : FVec Ideal S2x16381x384 .f32, res_main_v44 V0 = P := ⟨_, rfl⟩
  unfold outR w2R b2R layerR res_main_v55
  rw [hP]
  clean_types
  pointwise
  simp only [EReal.neg_mul, Ideal.erfc_neg, Ideal.ofBits_one_f32]

/-- The weight. -/
theorem weight_at (hx : ∀ b (i : Fin 8192) c, stateR V0 (ix3 b i c) = (x b i.val c : EReal)) (b : Fin 2) (e : Fin 16381) :
    weightR V0 (ix3 b e 0) = (mu (x b) (netR V0) (rad e.val) (src e.val) : EReal) := by
  unfold mu netR
  rw [← netOf_eq, ← out_at V0 hx]
  obtain ⟨P, hP⟩ : ∃ P : FVec Ideal S2x16381x1 .f32, res_main_v55 V0 = P := ⟨_, rfl⟩
  unfold weightR outR res_main_v60 res_main_call3_v3 res_main_call3_cst softCut
  rw [hP]
  clean_types
  pointwise
  rw [if_neg (not_not.2 rfl), zero_sub, add_comm (max _ _)]
  rfl

/-- The weights laid out as a row. -/
theorem weights_at (hx : ∀ b (i : Fin 8192) c, stateR V0 (ix3 b i c) = (x b i.val c : EReal)) (b : Fin 2) (e : Fin 16381) :
    weightsR V0 (ix2 b e) = (mu (x b) (netR V0) (rad e.val) (src e.val) : EReal) := by
  rw [← weight_at V0 hx]
  obtain ⟨P, hP⟩ : ∃ P : FVec Ideal S2x16381x1 .f32, res_main_v60 V0 = P := ⟨_, rfl⟩
  unfold weightsR weightR res_main_v61
  rw [hP]
  clean_types
  pointwise

end Weights
end Cert.Diffusion
-- ==== Proof.ReferenceSteps.lean ====
/- The reference's degrees and its three steps, as those of the whole sequence. -/
module

public import proofs.«01_k».proof.Proof.ReferenceWeights
public import proofs.«01_k».proof.Proof.WindowSteps

@[expose] public section

set_option maxRecDepth 16384

noncomputable section

namespace Cert.Diffusion

open Idealize.ShloMosaic Idealize.ShloMosaic.Routing Cert.ReferenceIdeal Cert.ReferenceIdeal.Gen Cert.ReferenceIdeal.Value

/-- What the edges add to the row at which they start, -/
theorem sum_low (g : ℕ → ℕ → ℝ) (i : ℕ) :
    (∑ e : Fin 16381, if src e.val = i then ((g (rad e.val) (src e.val) : ℝ) : EReal) else 0)
      = (((if i + 1 < 8192 then g 1 i else 0) + (if i + 2 < 8192 then g 2 i else 0) : ℝ) : EReal) := by
  rw [← sum_src, coe_sum]
  exact Finset.sum_congr rfl fun e _ => by split <;> rfl
/-- and to the row at which they end. -/
theorem sum_high (g : ℕ → ℕ → ℝ) (i : ℕ) (hi : i < 8192) :
    (∑ e : Fin 16381, if dst e.val = i then ((g (rad e.val) (src e.val) : ℝ) : EReal) else 0)
      = (((if 1 ≤ i then g 1 (i - 1) else 0) + (if 2 ≤ i then g 2 (i - 2) else 0) : ℝ) : EReal) := by
  rw [← sum_dst g i hi, coe_sum]
  exact Finset.sum_congr rfl fun e _ => by split <;> rfl

section Degrees

/-- The reciprocal roots of the degrees, from the edges' weights and their two columns of rows. -/
def inverseR (w : FVec Ideal S2x16381 .f32) (lo hi : IVec S16381x1 32) : FVec Ideal S2x8192 .f32 :=
  Host.powf (maximumf (Host.scatterAdd scatter_S2x8192_S16381x1_S2x16381_0_1_1_1 (Host.scatterAdd scatter_S2x8192_S16381x1_S2x16381_0_1_1_1
    (broadcastInDim S2x8192 ![] bcast_S_S2x8192 (constant S_ .f32 0x00000000#32)) lo w) hi w)
    (broadcastInDim S2x8192 ![] bcast_S_S2x8192 (constant S_ .f32 0x358637BD#32))) (broadcastInDim S2x8192 ![] bcast_S_S2x8192 (constant S_ .f32 0xBF000000#32))

/-- A positive number to the power minus one half. -/
theorem pow_minus_half (y : ℝ) (hy : 0 < y) : Ideal.pow (y : EReal) (Ideal.ofBits .f32 0xBF000000#32) = (((√y)⁻¹ : ℝ) : EReal) := by
  rw [minus_half_word, Ideal.pow_coe_coe]
  refine congrArg _ ?_
  show y ^ (-(1 / 2) : ℝ) = _
  rw [Real.rpow_neg hy.le, ← Real.sqrt_eq_rpow]

theorem inverse_at {w : FVec Ideal S2x16381 .f32} {lo hi : IVec S16381x1 32} (m : Fin 2 → ℕ → ℕ → ℝ)
    (hlo : ∀ e : Fin 16381, lo (ix2 e 0) = BitVec.ofNat 32 (src e.val)) (hhi : ∀ e : Fin 16381, hi (ix2 e 0) = BitVec.ofNat 32 (dst e.val))
    (hw : ∀ b (e : Fin 16381), w (ix2 b e) = (m b (rad e.val) (src e.val) : EReal)) (b : Fin 2) (i : Fin 8192) :
    inverseR w lo hi (ix2 b i) = (inv (m b) i.val : EReal) := by
  have key : inverseR w lo hi (ix2 b i)
      = Ideal.pow (max (Host.scatterAdd (F := Ideal) scatter_S2x8192_S16381x1_S2x16381_0_1_1_1 (Host.scatterAdd scatter_S2x8192_S16381x1_S2x16381_0_1_1_1
          (broadcastInDim S2x8192 ![] bcast_S_S2x8192 (constant S_ .f32 0x00000000#32)) lo w) hi w (ix2 b i)) eps6) (Ideal.ofBits .f32 0xBF000000#32) := by
    unfold inverseR
    generalize Host.scatterAdd (F := Ideal) scatter_S2x8192_S16381x1_S2x16381_0_1_1_1 (Host.scatterAdd scatter_S2x8192_S16381x1_S2x16381_0_1_1_1
      (broadcastInDim S2x8192 ![] bcast_S_S2x8192 (constant S_ .f32 0x00000000#32)) lo w) hi w = S
    rfl
  have z : (broadcastInDim S2x8192 ![] bcast_S_S2x8192 (constant S_ .f32 0x00000000#32) : FVec Ideal S2x8192 .f32) (ix2 b i) = 0 := by
    pointwise
  rw [key, scatter2_at _ hi w dst (fun e => dst_lt e.isLt) hhi, scatter2_at _ lo w src (fun e => src_lt e.isLt) hlo, z]
  simp only [hw]
  rw [sum_low (m b), sum_high (m b) _ i.isLt, zero_add, ← EReal.coe_add, eps6_real, ← EReal.coe_strictMono.monotone.map_max,
    pow_minus_half _ (lt_max_of_lt_right eps6_pos)]
  have d1 : 1 ≤ i.val → i.val - 1 + 1 < 8192 := fun h => by have := i.isLt; omega
  have d2 : 2 ≤ i.val → i.val - 2 + 2 < 8192 := fun h => by have := i.isLt; omega
  have ed : deg (m b) i.val = ((if i.val + 1 < 8192 then m b 1 i.val else 0) + (if i.val + 2 < 8192 then m b 2 i.val else 0))
      + ((if 1 ≤ i.val then m b 1 (i.val - 1) else 0) + (if 2 ≤ i.val then m b 2 (i.val - 2) else 0)) := by
    have e1 : dn 1 (wt (m b) 1) i.val = if 1 ≤ i.val then m b 1 (i.val - 1) else 0 := by
      unfold dn wt; split
      · next h => rw [if_pos (d1 h)]
      · rfl
    have e2 : dn 2 (wt (m b) 2) i.val = if 2 ≤ i.val then m b 2 (i.val - 2) else 0 := by
      unfold dn wt; split
      · next h => rw [if_pos (d2 h)]
      · rfl
    unfold deg
    rw [e1, e2]
    unfold wt
    ring
  unfold inv
  rw [ed]

end Degrees

section Steps

/-- What the edges carry of a state. -/
def flowR (w : FVec Ideal S2x16381x1 .f32) (v : FVec Ideal S2x8192 .f32) (lo hi : IVec S16381x1 32) (s : FVec Ideal S2x8192x768 .f32) :
    FVec Ideal S2x16381x768 .f32 :=
  mulf (mulf (broadcastInDim S2x16381x768 ![0, 1, 2] bcast_S2x16381x1_S2x16381x768_0_1_2 w)
    (subf (Host.gather gather_S2x8192x768_S16381x1_S2x16381x768_02_1_n_n_1_1_21768 s lo) (Host.gather gather_S2x8192x768_S16381x1_S2x16381x768_02_1_n_n_1_1_21768 s hi)))
    (broadcastInDim S2x16381x768 ![0, 1, 2] bcast_S2x16381x1_S2x16381x768_0_1_2 (broadcastInDim S2x16381x1 ![0, 1] bcast_S2x16381_S2x16381x1_0_1
      (mulf (Host.gather gather_S2x8192_S16381x1_S2x16381_0_1_n_n_1_1_21 v lo) (Host.gather gather_S2x8192_S16381x1_S2x16381_0_1_n_n_1_1_21 v hi))))

/-- The state after a step, from what the edges carry. -/
def stepR (f : FVec Ideal S2x16381x768 .f32) (q : FVec Ideal S2x8192x768 .f32) (lo hi : IVec S16381x1 32) (s : FVec Ideal S2x8192x768 .f32) :
    FVec Ideal S2x8192x768 .f32 :=
  subf s (mulf (broadcastInDim S2x8192x768 ![] bcast_S_S2x8192x768 (constant S_ .f32 0x3DCCCCCD#32))
    (subf (Host.scatterAdd scatter_S2x8192x768_S16381x1_S2x16381x768_02_1_1_1 (Host.scatterAdd scatter_S2x8192x768_S16381x1_S2x16381x768_02_1_1_1
      (broadcastInDim S2x8192x768 ![] bcast_S_S2x8192x768 (constant S_ .f32 0x00000000#32)) lo f) hi (Host.negf f)) q))

variable {w : FVec Ideal S2x16381x1 .f32} {v : FVec Ideal S2x8192 .f32} {lo hi : IVec S16381x1 32} {s q : FVec Ideal S2x8192x768 .f32}
  {m : Fin 2 → ℕ → ℕ → ℝ} {σ κ : Fin 2 → ℕ → Fin 768 → ℝ}

theorem flow_at (hlo : ∀ e : Fin 16381, lo (ix2 e 0) = BitVec.ofNat 32 (src e.val)) (hhi : ∀ e : Fin 16381, hi (ix2 e 0) = BitVec.ofNat 32 (dst e.val))
    (hw : ∀ b (e : Fin 16381), w (ix3 b e 0) = (m b (rad e.val) (src e.val) : EReal))
    (hv : ∀ b (i : Fin 8192), v (ix2 b i) = (inv (m b) i.val : EReal))
    (hs : ∀ b (i : Fin 8192) c, s (ix3 b i c) = (σ b i.val c : EReal)) (b : Fin 2) (e : Fin 16381) (c : Fin 768) :
    flowR w v lo hi s (ix3 b e c) = (flow (m b) (fun j => σ b j c) (rad e.val) (src e.val) : EReal) := by
  have key : flowR w v lo hi s (ix3 b e c) = (w (ix3 b e 0) * (Host.gather gather_S2x8192x768_S16381x1_S2x16381x768_02_1_n_n_1_1_21768 s lo (ix3 b e c)
      - Host.gather gather_S2x8192x768_S16381x1_S2x16381x768_02_1_n_n_1_1_21768 s hi (ix3 b e c)))
      * (Host.gather gather_S2x8192_S16381x1_S2x16381_0_1_n_n_1_1_21 v lo (ix2 b e) * Host.gather gather_S2x8192_S16381x1_S2x16381_0_1_n_n_1_1_21 v hi (ix2 b e)) := by
    unfold flowR
    generalize Host.gather gather_S2x8192x768_S16381x1_S2x16381x768_02_1_n_n_1_1_21768 s lo = A
    generalize Host.gather gather_S2x8192x768_S16381x1_S2x16381x768_02_1_n_n_1_1_21768 s hi = B
    generalize Host.gather gather_S2x8192_S16381x1_S2x16381_0_1_n_n_1_1_21 v lo = C
    generalize Host.gather gather_S2x8192_S16381x1_S2x16381_0_1_n_n_1_1_21 v hi = D
    pointwise
  rw [key, gather3_at s lo b e c ⟨_, src_lt e.isLt⟩ (hlo e), gather3_at s hi b e c ⟨_, dst_lt e.isLt⟩ (hhi e),
    gather2_at v lo b e ⟨_, src_lt e.isLt⟩ (hlo e), gather2_at v hi b e ⟨_, dst_lt e.isLt⟩ (hhi e), hw, hs, hs, hv, hv]
  simp only [← EReal.coe_sub, ← EReal.coe_mul]
  rfl

theorem step_at (hlo : ∀ e : Fin 16381, lo (ix2 e 0) = BitVec.ofNat 32 (src e.val)) (hhi : ∀ e : Fin 16381, hi (ix2 e 0) = BitVec.ofNat 32 (dst e.val))
    (hw : ∀ b (e : Fin 16381), w (ix3 b e 0) = (m b (rad e.val) (src e.val) : EReal))
    (hv : ∀ b (i : Fin 8192), v (ix2 b i) = (inv (m b) i.val : EReal))
    (hq : ∀ b (i : Fin 8192) c, q (ix3 b i c) = (κ b i.val c : EReal))
    (hs : ∀ b (i : Fin 8192) c, s (ix3 b i c) = (σ b i.val c : EReal)) (b : Fin 2) (i : Fin 8192) (c : Fin 768) :
    stepR (flowR w v lo hi s) q lo hi s (ix3 b i c) = (step (m b) (κ b) (σ b) i.val c : EReal) := by
  have hf := flow_at hlo hhi hw hv hs
  generalize flowR w v lo hi s = f at hf ⊢
  have key : stepR f q lo hi s (ix3 b i c) = s (ix3 b i c) - eta * (Host.scatterAdd (F := Ideal) scatter_S2x8192x768_S16381x1_S2x16381x768_02_1_1_1
      (Host.scatterAdd scatter_S2x8192x768_S16381x1_S2x16381x768_02_1_1_1
      (broadcastInDim S2x8192x768 ![] bcast_S_S2x8192x768 (constant S_ .f32 0x00000000#32)) lo f) hi (Host.negf f) (ix3 b i c) - q (ix3 b i c)) := rfl
  have z : (broadcastInDim S2x8192x768 ![] bcast_S_S2x8192x768 (constant S_ .f32 0x00000000#32) : FVec Ideal S2x8192x768 .f32) (ix3 b i c) = 0 := by
    pointwise
  have hn : ∀ e : Fin 16381, Host.negf f (ix3 b e c) = ((-flow (m b) (fun j => σ b j c) (rad e.val) (src e.val) : ℝ) : EReal) := fun e => by
    rw [EReal.coe_neg, ← hf]; rfl
  rw [key, scatter3_at _ hi (Host.negf f) dst (fun e => dst_lt e.isLt) hhi, scatter3_at _ lo f src (fun e => src_lt e.isLt) hlo, z, hs, hq]
  simp only [hf, hn]
  rw [sum_low (flow (m b) (fun j => σ b j c)), sum_high (fun r j => -flow (m b) (fun j => σ b j c) r j) _ i.isLt, zero_add, ← EReal.coe_add, eta_real,
    ← EReal.coe_sub, ← EReal.coe_mul, ← EReal.coe_sub]
  rfl

end Steps

section Query
variable (V0 : Valuation τ sig (Elt Ideal)) {x : Fin 2 → ℕ → Fin 768 → ℝ} {Wq : Fin 768 → Fin 768 → ℝ} {Bq : Fin 768 → ℝ}

def wqR : FVec Ideal S768x768 .f32 := V0 (Proc.devRef .tc main_arg6)
def bqR : FVec Ideal S768 .f32 := V0 (Proc.devRef .tc main_arg7)
def queryR : FVec Ideal S2x8192x768 .f32 := res_main_v11 V0

/-- The external field. -/
theorem query_at (hx : ∀ b (i : Fin 8192) c, stateR V0 (ix3 b i c) = (x b i.val c : EReal))
    (hw : ∀ k c, wqR V0 (ix2 k c) = (Wq k c : EReal)) (hb : ∀ c, bqR V0 (ix1 c) = (Bq c : EReal)) (b : Fin 2) (i : Fin 8192) (c : Fin 768) :
    queryR V0 (ix3 b i c) = (query (x b) Wq Bq i.val c : EReal) := by
  have key : queryR V0 (ix3 b i c) = (∑ k, stateR V0 (ix3 b i k) * wqR V0 (ix2 k c)) + bqR V0 (ix1 c) := by
    unfold queryR stateR wqR bqR res_main_v11
    clean_types
    pointwise
  rw [key]
  simp only [hx, hw, hb, ← EReal.coe_mul, ← coe_sum, ← EReal.coe_add]
  rfl

/-- The last state. -/
def lastR : FVec Ideal S2x8192x768 .f32 := res_main_v283 V0

theorem last_at (hx : ∀ b (i : Fin 8192) c, stateR V0 (ix3 b i c) = (x b i.val c : EReal))
    (hw : ∀ k c, wqR V0 (ix2 k c) = (Wq k c : EReal)) (hb : ∀ c, bqR V0 (ix1 c) = (Bq c : EReal)) (b : Fin 2) (i : Fin 8192) (c : Fin 768) :
    lastR V0 (ix3 b i c) = (state (mu (x b) (netR V0)) (query (x b) Wq Bq) (x b) i.val c : EReal) := by
  have hi := inverse_at (fun b => mu (x b) (netR V0)) (low_at V0) (high_at V0) (weights_at V0 hx)
  have hq := query_at V0 hx hw hb
  have hm := weight_at V0 hx
  have s1 := step_at (low_at V0) (high_at V0) hm hi hq hx
  have s2 := step_at (low_at V0) (high_at V0) hm hi hq s1
  have s3 := step_at (low_at V0) (high_at V0) hm hi hq s2
  exact s3 b i c

end Query
end Cert.Diffusion
-- ==== Proof.ReferenceResults.lean ====
/- The reference's two results: the normalised rows and the energies. -/
module

public import proofs.«01_k».proof.Proof.ReferenceSteps

@[expose] public section

set_option maxRecDepth 16384

noncomputable section

namespace Cert.Diffusion

open Idealize.ShloMosaic Idealize.ShloMosaic.Routing Cert.ReferenceIdeal Cert.ReferenceIdeal.Gen Cert.ReferenceIdeal.Value

variable (V0 : Valuation τ sig (Elt Ideal)) {x : Fin 2 → ℕ → Fin 768 → ℝ} {Wq : Fin 768 → Fin 768 → ℝ} {Bq : Fin 768 → ℝ}

/-- The first result, -/
def rowsR : FVec Ideal S2x8192x768 .f32 :=
    addf (mulf (Host.divf (subf (res_main_v284 V0) (broadcastInDim S2x8192x768 ![0, 1, 2] bcast_S2x8192x1_S2x8192x768_0_1_2 (Host.divf
      (broadcastInDim S2x8192x1 ![0, 1] bcast_S2x8192_S2x8192x1_0_1 (Host.reduceAdd (res_main_v284 V0) (constant S_ .f32 0x00000000#32)
      reducesTo_S2x8192x768_S2x8192_d2 h_S_)) (broadcastInDim S2x8192x1 ![] bcast_S_S2x8192x1 (constant S_ .f32 0x44400000#32)))))
      (broadcastInDim S2x8192x768 ![0, 1, 2] bcast_S2x8192x1_S2x8192x768_0_1_2 (Host.sqrt (addf (select (broadcastInDim S2x8192x1 ![]
      bcast_S_S2x8192x1 (cmpf .ogt (res_main_call4_v8 V0) (constant S_ .f32 0x00000000#32))) (Host.divf (broadcastInDim S2x8192x1 ![0, 1]
      bcast_S2x8192_S2x8192x1_0_1 (Host.reduceAdd (mulf (res_main_call4_v5 V0) (res_main_call4_v5 V0)) (constant S_ .f32 0x00000000#32)
      reducesTo_S2x8192x768_S2x8192_d2 h_S_)) (broadcastInDim S2x8192x1 ![] bcast_S_S2x8192x1 (res_main_call4_v8 V0))) (broadcastInDim
      S2x8192x1 ![] bcast_S_S2x8192x1 (id (constant S_ .f32 0x7FC00000#32)))) (broadcastInDim S2x8192x1 ![] bcast_S_S2x8192x1 (constant S_
      .f32 0x3727C5AC#32)))))) (broadcastInDim S2x8192x768 ![0, 1, 2] bcast_S1x1x768_S2x8192x768_0_1_2 (broadcastInDim S1x1x768 ![2]
      bcast_S768_S1x1x768_2 (V0 (Proc.devRef .tc main_arg8))))) (broadcastInDim S2x8192x768 ![0, 1, 2] bcast_S1x1x768_S2x8192x768_0_1_2
      (broadcastInDim S1x1x768 ![2] bcast_S768_S1x1x768_2 (V0 (Proc.devRef .tc main_arg9))))
/-- and the second. -/
def energiesR : FVec Ideal S2 .f32 :=
    mulf (broadcastInDim S2 ![] bcast_S_S2 (constant S_ .f32 0x3F000000#32)) (Host.reduceAdd (mulf (res_main_v61 V0) (Host.reduceAdd (mulf
      (res_main_v317 V0) (res_main_v317 V0)) (constant S_ .f32 0x00000000#32) reducesTo_S2x16381x768_S2x16381_d2 h_S_)) (constant S_ .f32
      0x00000000#32) reducesTo_S2x16381_S2_d1 h_S_)

def gammaR : FVec Ideal S768 .f32 := V0 (Proc.devRef .tc main_arg8)
def betaR : FVec Ideal S768 .f32 := V0 (Proc.devRef .tc main_arg9)

/-- The word of the number of features, less the number zero. -/
theorem width_sub : Ideal.ofBits .f32 0x44400000#32 - FloatOps.sitofp (F := Ideal) .f32 0#32 = ((768 : ℝ) : EReal) := by
  have e : FloatOps.sitofp (F := Ideal) .f32 0#32 = ((0 : ℝ) : EReal) := by
    show ((((0#32 : BitVec 32).toInt : ℤ) : ℝ) : EReal) = _
    norm_num
  rw [width_word, e, ← EReal.coe_sub, sub_zero]

/-- A real number divided by the number of features. -/
theorem div_width (y : ℝ) : Ideal.div (y : EReal) ((768 : ℝ) : EReal) = ((y / 768 : ℝ) : EReal) := by
  rw [Ideal.div_coe (by norm_num), ← EReal.coe_mul, mul_one_div]

/-- The first result's entry, from the row that it normalises. -/
theorem rows_of (v : Fin 768 → ℝ) (b : Fin 2) (i : Fin 8192) (hv : ∀ c, (res_main_v284 V0 : FVec Ideal S2x8192x768 .f32) (ix3 b i c) = (v c : EReal))
    (c : Fin 768) : rowsR V0 (ix3 b i c) = (normed v c : EReal) * gammaR V0 (ix1 c) + betaR V0 (ix1 c) := by
  obtain ⟨R, hR⟩ : ∃ R : FVec Ideal S2x8192x768 .f32, res_main_v284 V0 = R := ⟨_, rfl⟩
  rw [hR] at hv
  unfold rowsR gammaR betaR res_main_call4_v5 res_main_call4_v8
  rw [hR]
  clean_types
  pointwise
  simp only [hv]
  rw [width_sub, width_word, if_pos (by exact_mod_cast (by norm_num : (0 : ℝ) < 768)), ← coe_sum, div_width]
  simp only [← EReal.coe_sub, ← EReal.coe_mul, ← coe_sum, div_width]
  have hp : 0 < var v + eps5.toReal :=
    add_pos_of_nonneg_of_pos (div_nonneg (Finset.sum_nonneg fun c _ => mul_self_nonneg _) (by norm_num)) eps5_pos
  have hs : Ideal.sqrt (((var v : ℝ) : EReal) + Ideal.ofBits .f32 925353388#32) = ((√(var v + eps5.toReal) : ℝ) : EReal) := by
    refine (congrArg (fun z => Ideal.sqrt (((var v : ℝ) : EReal) + z)) eps5_real).trans ?_
    show Ideal.sqrt (((var v : ℝ) : EReal) + (eps5.toReal : EReal)) = _
    rw [← EReal.coe_add]
    exact if_neg (not_lt.2 hp.le)
  have hr : √(var v + eps5.toReal) ≠ 0 := (Real.sqrt_pos.2 hp).ne'
  refine congrArg (fun z : EReal => z * _ + _) ?_
  refine (congrArg (fun z => Ideal.div (((v c - mean v : ℝ)) : EReal) z) hs).trans ?_
  show Ideal.div _ _ = _
  rw [Ideal.div_coe hr, ← EReal.coe_mul, one_div]
  rfl

/-- The second result's entry. -/
theorem energies_of (b : Fin 2) (W : FVec Ideal S2x16381 .f32) (hW : res_main_v61 V0 = W) (D : FVec Ideal S2x16381x768 .f32) (hD : res_main_v317 V0 = D) :
    energiesR V0 (ix1 b) = Ideal.ofBits .f32 0x3F000000#32 * ∑ e : Fin 16381, W (ix2 b e) * ∑ c, D (ix3 b e c) * D (ix3 b e c) := by
  unfold energiesR
  rw [hW, hD]
  clean_types
  pointwise

/-- The row that the first result normalises: the last state and the input, added. -/
theorem added_at (hx : ∀ b (i : Fin 8192) c, stateR V0 (ix3 b i c) = (x b i.val c : EReal))
    (hw : ∀ k c, wqR V0 (ix2 k c) = (Wq k c : EReal)) (hb : ∀ c, bqR V0 (ix1 c) = (Bq c : EReal)) (b : Fin 2) (i : Fin 8192) (c : Fin 768) :
    rowsR V0 (ix3 b i c)
      = (normed (fun c => state (mu (x b) (netR V0)) (query (x b) Wq Bq) (x b) i.val c + x b i.val c) c : EReal) * gammaR V0 (ix1 c) + betaR V0 (ix1 c) := by
  refine rows_of V0 _ b i (fun c => ?_) c
  have e : (res_main_v284 V0 : FVec Ideal S2x8192x768 .f32) (ix3 b i c) = lastR V0 (ix3 b i c) + stateR V0 (ix3 b i c) := rfl
  rw [e, last_at V0 hx hw hb, hx, ← EReal.coe_add]

/-- The energy. -/
theorem energies_at (hx : ∀ b (i : Fin 8192) c, stateR V0 (ix3 b i c) = (x b i.val c : EReal))
    (hw : ∀ k c, wqR V0 (ix2 k c) = (Wq k c : EReal)) (hb : ∀ c, bqR V0 (ix1 c) = (Bq c : EReal)) (b : Fin 2) :
    energiesR V0 (ix1 b) = (energy (mu (x b) (netR V0)) (state (mu (x b) (netR V0)) (query (x b) Wq Bq) (x b)) : EReal) := by
  rw [energies_of V0 b (weightsR V0) rfl (res_main_v317 V0) rfl, half_word]
  have hl := lower_at (V0 := V0) (last_at V0 hx hw hb) b
  have hu := upper_at (V0 := V0) (last_at V0 hx hw hb) b
  have hd : ∀ (e : Fin 16381) (c : Fin 768), (res_main_v317 V0 : FVec Ideal S2x16381x768 .f32) (ix3 b e c)
      = ((state (mu (x b) (netR V0)) (query (x b) Wq Bq) (x b) (src e.val) c
          - state (mu (x b) (netR V0)) (query (x b) Wq Bq) (x b) (src e.val + rad e.val) c : ℝ) : EReal) := fun e c => by
    rw [EReal.coe_sub, ← hl, ← hu]
    rfl
  simp only [weights_at V0 hx, hd, ← EReal.coe_mul, ← coe_sum]
  refine congrArg _ ?_
  unfold energy
  refine congrArg _ ?_
  refine (sum_all fun r i => mu (x b) (netR V0) r i * sq (state (mu (x b) (netR V0)) (query (x b) Wq Bq) (x b)) r i).trans ?_
  refine Finset.sum_congr rfl fun i _ => ?_
  unfold part wt
  split <;> split <;> simp

end Cert.Diffusion
-- ==== Proof.Agree.lean ====
/- The kernel and the reference return the same: on arguments with real hidden states, query weights and query bias, both
   results of both programs are the same formulas. -/
module

public import proofs.«01_k».proof.Defs
public import proofs.«01_k».proof.Proof.Finite
public import proofs.«01_k».proof.Proof.KernelResults
public import proofs.«01_k».proof.Proof.ReferenceResults
public import proofs.«01_k».proof.Proof.Gen.ReferenceIdeal.Run

@[expose] public section

set_option maxRecDepth 16384

noncomputable section

namespace Cert.Diffusion

open Idealize.ShloMosaic Idealize.ShloMosaic.TcCoe Idealize.SL.Sem

/-- A sequence's rows as real numbers, zero past the end. -/
def rowsOf (A : FVec Ideal Cert.KernelIdeal.S2x8192x768 .f32) (b : Fin 2) (i : ℕ) (a : Fin 768) : ℝ :=
  if h : i < 8192 then EReal.toReal (A (ix3 b ⟨i, h⟩ a)) else 0

theorem agree : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre harg
  letI := Cert.Pre_finite.facts
  have hreal c := Cert.Pre_finite.reals _ _ _ _ _ _ _ _ _ _ (hpre c)
  let V0 (c : Dev Cert.KernelIdeal.nD) := StableHlo.launchContents m' c
  let x (c : Dev Cert.KernelIdeal.nD) := rowsOf (hiddenK m c)
  let Wq (c : Dev Cert.KernelIdeal.nD) (k a : Fin 768) : ℝ := EReal.toReal (wqK m c (ix2 k a))
  let Bq (c : Dev Cert.KernelIdeal.nD) (a : Fin 768) : ℝ := EReal.toReal (bqK m c (ix1 a))
  have hx c b (i : Fin 8192) a : hiddenK m c (ix3 b i a) = (x c b i.val a : EReal) := by
    refine ((hreal c).1 (ix3 b i a)).trans ?_
    show _ = ((rowsOf (hiddenK m c) b i.val a : ℝ) : EReal)
    unfold rowsOf
    rw [dif_pos i.isLt]; rfl
  have hw c k a : wqK m c (ix2 k a) = (Wq c k a : EReal) := (hreal c).2.1 (ix2 k a)
  have hb c a : bqK m c (ix1 a) = (Bq c a : EReal) := (hreal c).2.2 (ix1 a)
  have a0 c : stateR (V0 c) = hiddenK m c := (harg c).1
  have a2 c : w1R (V0 c) = w1K m c := (harg c).2.2.1
  have a3 c : b1R (V0 c) = b1K m c := (harg c).2.2.2.1
  have a4 c : w2R (V0 c) = w2K m c := (harg c).2.2.2.2.1
  have a5 c : b2R (V0 c) = b2K m c := (harg c).2.2.2.2.2.1
  have a6 c : wqR (V0 c) = wqK m c := (harg c).2.2.2.2.2.2.1
  have a7 c : bqR (V0 c) = bqK m c := (harg c).2.2.2.2.2.2.2.1
  have a8 c : gammaR (V0 c) = gammaK m c := (harg c).2.2.2.2.2.2.2.2.1
  have a9 c : betaR (V0 c) = betaK m c := (harg c).2.2.2.2.2.2.2.2.2
  have net c : netR (V0 c) = netK m c := by
    unfold netR netK
    rw [a2, a3, a4, a5]
  have hG c b (i : Fin 8192) (a : Fin 768) := added_at (V0 c) (x := x c) (Wq := Wq c) (Bq := Bq c)
    (fun b i a => by rw [a0]; exact hx c b i a) (fun k a => by rw [a6]; exact hw c k a) (fun a => by rw [a7]; exact hb c a) b i a
  have hE c b := energies_at (V0 c) (x := x c) (Wq := Wq c) (Bq := Bq c)
    (fun b i a => by rw [a0]; exact hx c b i a) (fun k a => by rw [a6]; exact hw c k a) (fun a => by rw [a7]; exact hb c a) b
  simp only [net, a8, a9] at hG hE
  exact ⟨fun c => rowsR (V0 c), fun c => energiesR (V0 c), kernel_run g hx hw hb _ _ hG hE, Cert.ReferenceIdeal.Value.run m' g'⟩

end Cert.Diffusion
-- ==== Proof.lean ====
/- The claims about the program, its ideal form and the reference, put together from the modules that prove
   their parts. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelFrame
public import proofs.«01_k».proof.Proof.KernelIdealFrame
public import proofs.«01_k».proof.Proof.Agree
public import Idealize.ShloMosaic.Adequacy
public import Idealize.ShloMosaic.Init

@[expose] public section

noncomputable section

namespace Cert.Proof

open Idealize.ShloMosaic Idealize.SL.Sem

/-- The ideal reference runs without fault, leaves its arguments as they were and, having no semaphore, every
    counter at zero. -/
theorem reference_frame : Cert.quiescent_ReferenceIdeal (hReferenceIdeal := Cert.ReferenceIdeal.Gen.facts) := by
  intro m g _
  exact (θ_run Cert.ReferenceIdeal.defs _ _).mono
    (fun r h => ⟨fun c => (h c).2.2, sem_eq_zero_of_no_sems (by decide) r.2⟩) (Cert.ReferenceIdeal.Value.run m g)

theorem claim : Cert.Claim :=
  ⟨Cert.Kernel.Gen.facts, Cert.KernelIdeal.Gen.facts, Cert.ReferenceIdeal.Gen.facts, Cert.Pre_finite.facts,
    fun m g _ => Cert.Kernel.Run.frame m g, fun m g _ => Cert.KernelIdeal.Run.frame m g, fun m g _ => Cert.KernelIdeal.Run.frame m g,
    reference_frame, fun m g _ => reference_frame m g trivial, trivial, Cert.Diffusion.agree⟩

end Cert.Proof

end
